-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive [hPre_positive : Cert.Pre_positive.Facts] (m : (ℓ : Loc Cert.KernelIdeal.nD Cert.KernelIdeal.τ Cert.KernelIdeal.sig) → Buf (Elt Ideal) ℓ) : Prop :=
  ∀ c : Dev Cert.KernelIdeal.nD,
    (Cert.Pre_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive [hPre_positive : Cert.Pre_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_positive [hKernelIdeal : Cert.KernelIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_positive [hReferenceIdeal : Cert.ReferenceIdeal.Facts] [hPre_positive : Cert.Pre_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "sm_scale_log2e" .f32 0x3E38AA3B#32 (((1 / 8) * (Real.log 2)⁻¹ : ℝ) : EReal)

def algebraic_KernelIdeal_ReferenceIdeal_pre_positive [hKernelIdeal : Cert.KernelIdeal.Facts] [hReferenceIdeal : Cert.ReferenceIdeal.Facts] [hPre_positive : Cert.Pre_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_positive : Cert.Pre_positive.Facts),
    quiescent_Kernel (hKernel := hKernel)
    ∧ quiescent_KernelIdeal (hKernelIdeal := hKernelIdeal)
    ∧ quiescent_KernelIdeal_pre_positive (hKernelIdeal := hKernelIdeal) (hPre_positive := hPre_positive)
    ∧ quiescent_ReferenceIdeal (hReferenceIdeal := hReferenceIdeal)
    ∧ quiescent_ReferenceIdeal_pre_positive (hReferenceIdeal := hReferenceIdeal) (hPre_positive := hPre_positive)
    ∧ preserves_Kernel_KernelIdeal
    ∧ algebraic_KernelIdeal_ReferenceIdeal_pre_positive (hKernelIdeal := hKernelIdeal) (hReferenceIdeal := hReferenceIdeal) (hPre_positive := hPre_positive)
-- ==== Pre_positive.lean ====
abbrev S2x16x256 : Shape := ⟨3, ![2, 16, 256]⟩
abbrev S2x16x512 : Shape := ⟨3, ![2, 16, 512]⟩
abbrev S2x32768x1024 : Shape := ⟨3, ![2, 32768, 1024]⟩
abbrev S2x1024x32768 : Shape := ⟨3, ![2, 1024, 32768]⟩
abbrev S2x1x1024 : Shape := ⟨3, ![2, 1, 1024]⟩
abbrev S_ : Shape := ⟨0, ![]⟩

class Facts : Prop where
  bcast_S_S2x1x1024 : S_.BroadcastsInDim S2x1x1024 (![] : Fin 0 → Fin S2x1x1024.rank)
  reducesTo_S2x1x1024_S_d0_1_2 : S2x1x1024.ReducesTo [0, 1, 2] S_
  h_S_ : 0 < S_.numel

variable [Facts]

def fn {F : FTy → Type} [FloatOps F] (main_arg0 : FVec F S2x16x256 .f32) (main_arg1 : FVec F S2x16x512 .f32) (main_arg2 : FVec F S2x32768x1024 .fp8e4m3) (main_arg3 : FVec F S2x32768x1024 .fp8e4m3) (main_arg4 : FVec F S2x1024x32768 .fp8e4m3) (main_arg5 : FVec F S2x1x1024 .f32) : IVec S_ 1 :=
  let main_cst : FVec F S_ .f32 := constant S_ .f32 0x00000000#32
  let main_v0 : FVec F S2x1x1024 .f32 := broadcastInDim S2x1x1024 ![] bcast_S_S2x1x1024 main_cst
  let main_v1 : IVec S2x1x1024 1 := cmpf .ogt main_arg5 main_v0
  let main_c : IVec S_ 1 := constantI S_ 1 1#1
  let main_v2 : IVec S_ 1 := (fun x v => Host.reduce IntOp.andi x v reducesTo_S2x1x1024_S_d0_1_2 h_S_) main_v1 main_c
  main_v2
-- ==== Kernel.lean ====
abbrev S2x16x256 : Shape := ⟨3, ![2, 16, 256]⟩
abbrev S2x16x512 : Shape := ⟨3, ![2, 16, 512]⟩
abbrev S2x32768x1024 : Shape := ⟨3, ![2, 32768, 1024]⟩
abbrev S2x1024x32768 : Shape := ⟨3, ![2, 1024, 32768]⟩
abbrev S2x1x1024 : Shape := ⟨3, ![2, 1, 1024]⟩
abbrev S2x8x2x256 : Shape := ⟨4, ![2, 8, 2, 256]⟩
abbrev S2x8x2x512 : Shape := ⟨4, ![2, 8, 2, 512]⟩
abbrev S1x1x2x256 : Shape := ⟨4, ![1, 1, 2, 256]⟩
abbrev S1x1x2x512 : Shape := ⟨4, ![1, 1, 2, 512]⟩
abbrev S1x128x128 : Shape := ⟨3, ![1, 128, 128]⟩
abbrev S1x32768x128 : Shape := ⟨3, ![1, 32768, 128]⟩
abbrev S1x128x32768 : Shape := ⟨3, ![1, 128, 32768]⟩
abbrev S1x1x128 : Shape := ⟨3, ![1, 1, 128]⟩
abbrev S32768x256 : Shape := ⟨2, ![32768, 256]⟩
abbrev S128x256 : Shape := ⟨2, ![128, 256]⟩
abbrev S128x128 : Shape := ⟨2, ![128, 128]⟩
abbrev S256x128 : Shape := ⟨2, ![256, 128]⟩
abbrev S1x1x1x1 : Shape := ⟨4, ![1, 1, 1, 1]⟩
abbrev S8x128 : Shape := ⟨2, ![8, 128]⟩
abbrev S1x512x128 : Shape := ⟨3, ![1, 512, 128]⟩
abbrev S512x128 : Shape := ⟨2, ![512, 128]⟩
abbrev S512x256 : Shape := ⟨2, ![512, 256]⟩
abbrev S64x128 : Shape := ⟨2, ![64, 128]⟩
abbrev S8x8x128 : Shape := ⟨3, ![8, 8, 128]⟩
abbrev S128 : Shape := ⟨1, ![128]⟩
abbrev S1x128 : Shape := ⟨2, ![1, 128]⟩
abbrev S64x8x128 : Shape := ⟨3, ![64, 8, 128]⟩
abbrev S1x128x512 : Shape := ⟨3, ![1, 128, 512]⟩
abbrev S128x512 : Shape := ⟨2, ![128, 512]⟩

abbrev nBuf : Space → Nat
  | .hbm => 9
  | .vmem => 12
  | .smem => 4
  | _ => 0

abbrev bufTy : (tb : Table) → Fin (tcTables nBuf tb) → BufTy
  | .hbm, ⟨0, _⟩ => ⟨S2x16x256, .f32⟩
  | .hbm, ⟨1, _⟩ => ⟨S2x16x512, .f32⟩
  | .hbm, ⟨2, _⟩ => ⟨S2x32768x1024, .fp8e4m3⟩
  | .hbm, ⟨3, _⟩ => ⟨S2x32768x1024, .fp8e4m3⟩
  | .hbm, ⟨4, _⟩ => ⟨S2x1024x32768, .fp8e4m3⟩
  | .hbm, ⟨5, _⟩ => ⟨S2x1x1024, .f32⟩
  | .hbm, ⟨6, _⟩ => ⟨S2x8x2x256, .f32⟩
  | .hbm, ⟨7, _⟩ => ⟨S2x8x2x512, .f32⟩
  | .hbm, ⟨8, _⟩ => ⟨S2x32768x1024, .bf16⟩
  | .local _ .vmem, ⟨0, _⟩ => ⟨S1x128x128, .fp8e4m3⟩
  | .local _ .vmem, ⟨1, _⟩ => ⟨S1x128x128, .fp8e4m3⟩
  | .local _ .vmem, ⟨2, _⟩ => ⟨S1x32768x128, .fp8e4m3⟩
  | .local _ .vmem, ⟨3, _⟩ => ⟨S1x32768x128, .fp8e4m3⟩
  | .local _ .vmem, ⟨4, _⟩ => ⟨S1x128x32768, .fp8e4m3⟩
  | .local _ .vmem, ⟨5, _⟩ => ⟨S1x128x32768, .fp8e4m3⟩
  | .local _ .vmem, ⟨6, _⟩ => ⟨S1x1x128, .f32⟩
  | .local _ .vmem, ⟨7, _⟩ => ⟨S1x1x128, .f32⟩
  | .local _ .vmem, ⟨8, _⟩ => ⟨S1x128x128, .bf16⟩
  | .local _ .vmem, ⟨9, _⟩ => ⟨S1x128x128, .bf16⟩
  | .local _ .vmem, ⟨10, _⟩ => ⟨S32768x256, .f32⟩
  | .local _ .vmem, ⟨11, _⟩ => ⟨S128x256, .f32⟩
  | .local _ .smem, ⟨0, _⟩ => ⟨S1x1x2x256, .f32⟩
  | .local _ .smem, ⟨1, _⟩ => ⟨S1x1x2x256, .f32⟩
  | .local _ .smem, ⟨2, _⟩ => ⟨S1x1x2x512, .f32⟩
  | .local _ .smem, ⟨3, _⟩ => ⟨S1x1x2x512, .f32⟩
  | _, _ => ⟨S2x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 256], ![false, false, false]⟩

def k0_off1 (i : grid0.Coords) : Fin 4 → Nat :=
  let c0_16 : Index := 0#32
  let c0_17 : Index := 0#32
  let c0_18 : Index := 0#32
  let arg2 : BitVec 32 := BitVec.ofNat 32 (i 2).val
  let v62 : Index := Scalar.indexCast arg2
  ![0, 0, 0, v62.toNat]
def k0_off2 (i : grid0.Coords) : Fin 4 → Nat :=
  let c0_20 : Index := 0#32
  let c0_21 : Index := 0#32
  let c1 : Index := 1#32
  let arg2 : BitVec 32 := BitVec.ofNat 32 (i 2).val
  let v65 : Index := Scalar.indexCast arg2
  ![0, 0, 1, v65.toNat]
@[reducible] def k0_t1_loop (i : grid0.Coords) : Scf.Loop 32 :=
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_27 : BitVec 32 := 1#32
  ⟨c0_i32_25, v74, c1_i32_27⟩
def k0_mult1 (i : grid0.Coords) (k0_t1 : Fin (k0_t1_loop i).trips) : BitVec 32 :=
  let c0_i32_25 : BitVec 32 := 0#32
  let c1_i32_27 : BitVec 32 := 1#32
  let arg12 : BitVec 32 := Scf.iv c0_i32_25 c1_i32_27 k0_t1
  let c512_i32_206 : BitVec 32 := 512#32
  let v497 : BitVec 32 := Scalar.muli arg12 c512_i32_206
  v497
def k0_off3 (i : grid0.Coords) (k0_t1 : Fin (k0_t1_loop i).trips) : Fin 3 → Nat :=
  let c0_207 : Index := 0#32
  let c0_i32_25 : BitVec 32 := 0#32
  let c1_i32_27 : BitVec 32 := 1#32
  let arg12 : BitVec 32 := Scf.iv c0_i32_25 c1_i32_27 k0_t1
  let c512_i32_206 : BitVec 32 := 512#32
  let v497 : BitVec 32 := Scalar.muli arg12 c512_i32_206
  let v498 : BitVec 32 := v497
  let v499 : Index := Scalar.indexCast v498
  let c0_208 : Index := 0#32
  ![0, v499.toNat, 0]
def k0_off4 (i : grid0.Coords) (k0_t1 : Fin (k0_t1_loop i).trips) (c0_i32_211 : BitVec 32) : Fin 4 → Nat :=
  let c0_212 : Index := 0#32
  let c0_213 : Index := 0#32
  let c0_214 : Index := 0#32
  let c0_i32_25 : BitVec 32 := 0#32
  let c1_i32_27 : BitVec 32 := 1#32
  let arg12 : BitVec 32 := Scf.iv c0_i32_25 c1_i32_27 k0_t1
  let c8_i32_210 : BitVec 32 := 8#32
  let v503 : BitVec 32 := Scalar.muli arg12 c8_i32_210
  let v504 : BitVec 32 := Scalar.addi v503 c0_i32_211
  let v505 : Index := Scalar.indexCast v504
  ![0, 0, 0, v505.toNat]
def k0_off5 (i : grid0.Coords) (k0_t1 : Fin (k0_t1_loop i).trips) (c0_i32_215 : BitVec 32) : Fin 2 → Nat :=
  let c0_i32_25 : BitVec 32 := 0#32
  let c1_i32_27 : BitVec 32 := 1#32
  let arg12 : BitVec 32 := Scf.iv c0_i32_25 c1_i32_27 k0_t1
  let c512_i32_206 : BitVec 32 := 512#32
  let v497 : BitVec 32 := Scalar.muli arg12 c512_i32_206
  let v498 : BitVec 32 := v497
  let v511 : BitVec 32 := Scalar.addi v498 c0_i32_215
  let v512 : Index := Scalar.indexCast v511
  let c0_216 : Index := 0#32
  ![v512.toNat, 0]
def k0_off6 (i : grid0.Coords) (k0_t1 : Fin (k0_t1_loop i).trips) (c0_i32_275 : BitVec 32) : Fin 4 → Nat :=
  let c0_276 : Index := 0#32
  let c0_277 : Index := 0#32
  let c1_278 : Index := 1#32
  let c0_i32_25 : BitVec 32 := 0#32
  let c1_i32_27 : BitVec 32 := 1#32
  let arg12 : BitVec 32 := Scf.iv c0_i32_25 c1_i32_27 k0_t1
  let c8_i32_274 : BitVec 32 := 8#32
  let v631 : BitVec 32 := Scalar.muli arg12 c8_i32_274
  let v632 : BitVec 32 := Scalar.addi v631 c0_i32_275
  let v633 : Index := Scalar.indexCast v632
  ![0, 0, 1, v633.toNat]
def k0_off7 (i : grid0.Coords) (k0_t1 : Fin (k0_t1_loop i).trips) (c0_i32_279 : BitVec 32) : Fin 2 → Nat :=
  let c0_i32_25 : BitVec 32 := 0#32
  let c1_i32_27 : BitVec 32 := 1#32
  let arg12 : BitVec 32 := Scf.iv c0_i32_25 c1_i32_27 k0_t1
  let c512_i32_206 : BitVec 32 := 512#32
  let v497 : BitVec 32 := Scalar.muli arg12 c512_i32_206
  let v498 : BitVec 32 := v497
  let v639 : BitVec 32 := Scalar.addi v498 c0_i32_279
  let v640 : Index := Scalar.indexCast v639
  let c128_280 : Index := 128#32
  ![v640.toNat, 128]
@[reducible] def k0_t2_loop (i : grid0.Coords) : Scf.Loop 32 :=
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let v71 : BitVec 32 := Scalar.addi c0_i32_25 v70
  let c1_i32_28 : BitVec 32 := 1#32
  ⟨v74, v71, c1_i32_28⟩
def k0_mult2 (i : grid0.Coords) (k0_t2 : Fin (k0_t2_loop i).trips) : BitVec 32 :=
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg12 : BitVec 32 := Scf.iv v74 c1_i32_28 k0_t2
  let c512_i32_206 : BitVec 32 := 512#32
  let v497 : BitVec 32 := Scalar.muli arg12 c512_i32_206
  v497
def k0_off8 (i : grid0.Coords) (k0_t2 : Fin (k0_t2_loop i).trips) : Fin 3 → Nat :=
  let c0_207 : Index := 0#32
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg12 : BitVec 32 := Scf.iv v74 c1_i32_28 k0_t2
  let c512_i32_206 : BitVec 32 := 512#32
  let v497 : BitVec 32 := Scalar.muli arg12 c512_i32_206
  let v498 : BitVec 32 := v497
  let v499 : Index := Scalar.indexCast v498
  let c0_208 : Index := 0#32
  ![0, v499.toNat, 0]
def k0_off9 (i : grid0.Coords) (k0_t2 : Fin (k0_t2_loop i).trips) (c0_i32_211 : BitVec 32) : Fin 4 → Nat :=
  let c0_212 : Index := 0#32
  let c0_213 : Index := 0#32
  let c0_214 : Index := 0#32
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg12 : BitVec 32 := Scf.iv v74 c1_i32_28 k0_t2
  let c8_i32_210 : BitVec 32 := 8#32
  let v503 : BitVec 32 := Scalar.muli arg12 c8_i32_210
  let v504 : BitVec 32 := Scalar.addi v503 c0_i32_211
  let v505 : Index := Scalar.indexCast v504
  ![0, 0, 0, v505.toNat]
def k0_off10 (i : grid0.Coords) (k0_t2 : Fin (k0_t2_loop i).trips) (c0_i32_215 : BitVec 32) : Fin 2 → Nat :=
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg12 : BitVec 32 := Scf.iv v74 c1_i32_28 k0_t2
  let c512_i32_206 : BitVec 32 := 512#32
  let v497 : BitVec 32 := Scalar.muli arg12 c512_i32_206
  let v498 : BitVec 32 := v497
  let v511 : BitVec 32 := Scalar.addi v498 c0_i32_215
  let v512 : Index := Scalar.indexCast v511
  let c0_216 : Index := 0#32
  ![v512.toNat, 0]
def k0_off11 (i : grid0.Coords) (k0_t2 : Fin (k0_t2_loop i).trips) (c0_i32_275 : BitVec 32) : Fin 4 → Nat :=
  let c0_276 : Index := 0#32
  let c0_277 : Index := 0#32
  let c1_278 : Index := 1#32
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg12 : BitVec 32 := Scf.iv v74 c1_i32_28 k0_t2
  let c8_i32_274 : BitVec 32 := 8#32
  let v631 : BitVec 32 := Scalar.muli arg12 c8_i32_274
  let v632 : BitVec 32 := Scalar.addi v631 c0_i32_275
  let v633 : Index := Scalar.indexCast v632
  ![0, 0, 1, v633.toNat]
def k0_off12 (i : grid0.Coords) (k0_t2 : Fin (k0_t2_loop i).trips) (c0_i32_279 : BitVec 32) : Fin 2 → Nat :=
  let c0_i32_25 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let v70 : BitVec 32 := Scalar.subi v1 c0_i32_25
  let c1_i32_26 : BitVec 32 := 1#32
  let v72 : BitVec 32 := Scalar.divsi v70 c1_i32_26
  let v73 : BitVec 32 := Scalar.muli v72 c1_i32_26
  let v74 : BitVec 32 := Scalar.addi c0_i32_25 v73
  let c1_i32_28 : BitVec 32 := 1#32
  let arg12 : BitVec 32 := Scf.iv v74 c1_i32_28 k0_t2
  let c512_i32_206 : BitVec 32 := 512#32
  let v497 : BitVec 32 := Scalar.muli arg12 c512_i32_206
  let v498 : BitVec 32 := v497
  let v639 : BitVec 32 := Scalar.addi v498 c0_i32_279
  let v640 : Index := Scalar.indexCast v639
  let c128_280 : Index := 128#32
  ![v640.toNat, 128]
def k0_mult3 (i : grid0.Coords) : BitVec 32 :=
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c512_i32_29 : BitVec 32 := 512#32
  let v77 : BitVec 32 := Scalar.muli v1 c512_i32_29
  v77
def k0_off13 (i : grid0.Coords) : Fin 3 → Nat :=
  let c0_30 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c512_i32_29 : BitVec 32 := 512#32
  let v77 : BitVec 32 := Scalar.muli v1 c512_i32_29
  let v78 : BitVec 32 := v77
  let v79 : Index := Scalar.indexCast v78
  let c0_31 : Index := 0#32
  ![0, v79.toNat, 0]
def k0_off14 (i : grid0.Coords) (c0_i32_34 : BitVec 32) : Fin 4 → Nat :=
  let c0_35 : Index := 0#32
  let c0_36 : Index := 0#32
  let c0_37 : Index := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c8_i32 : BitVec 32 := 8#32
  let v87 : BitVec 32 := Scalar.muli v1 c8_i32
  let v88 : BitVec 32 := Scalar.addi v87 c0_i32_34
  let v89 : Index := Scalar.indexCast v88
  ![0, 0, 0, v89.toNat]
def k0_off15 (i : grid0.Coords) (c0_i32_40 : BitVec 32) : Fin 2 → Nat :=
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c512_i32_29 : BitVec 32 := 512#32
  let v77 : BitVec 32 := Scalar.muli v1 c512_i32_29
  let v78 : BitVec 32 := v77
  let v102 : BitVec 32 := Scalar.addi v78 c0_i32_40
  let v103 : Index := Scalar.indexCast v102
  let c0_41 : Index := 0#32
  ![v103.toNat, 0]
def k0_off16 (i : grid0.Coords) (c0_i32_103 : BitVec 32) : Fin 4 → Nat :=
  let c0_104 : Index := 0#32
  let c0_105 : Index := 0#32
  let c1_106 : Index := 1#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c8_i32_102 : BitVec 32 := 8#32
  let v271 : BitVec 32 := Scalar.muli v1 c8_i32_102
  let v272 : BitVec 32 := Scalar.addi v271 c0_i32_103
  let v273 : Index := Scalar.indexCast v272
  ![0, 0, 1, v273.toNat]
def k0_off17 (i : grid0.Coords) (c0_i32_109 : BitVec 32) : Fin 2 → Nat :=
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c512_i32_29 : BitVec 32 := 512#32
  let v77 : BitVec 32 := Scalar.muli v1 c512_i32_29
  let v78 : BitVec 32 := v77
  let v286 : BitVec 32 := Scalar.addi v78 c0_i32_109
  let v287 : Index := Scalar.indexCast v286
  let c128 : Index := 128#32
  ![v287.toNat, 128]
@[reducible] def k0_t3_loop (i : grid0.Coords) : Scf.Loop 32 :=
  let c0_i32_191 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c1_i32_190 : BitVec 32 := 1#32
  let v469 : BitVec 32 := Scalar.addi v1 c1_i32_190
  let v470 : BitVec 32 := Scalar.subi v469 c0_i32_191
  let c1_i32_192 : BitVec 32 := 1#32
  let v472 : BitVec 32 := Scalar.divsi v470 c1_i32_192
  let v473 : BitVec 32 := Scalar.muli v472 c1_i32_192
  let v474 : BitVec 32 := Scalar.addi c0_i32_191 v473
  let c1_i32_193 : BitVec 32 := 1#32
  ⟨c0_i32_191, v474, c1_i32_193⟩
def k0_mult4 (i : grid0.Coords) (k0_t3 : Fin (k0_t3_loop i).trips) : BitVec 32 :=
  let c0_i32_191 : BitVec 32 := 0#32
  let c1_i32_193 : BitVec 32 := 1#32
  let arg12 : BitVec 32 := Scf.iv c0_i32_191 c1_i32_193 k0_t3
  let c512_i32_206 : BitVec 32 := 512#32
  let v497 : BitVec 32 := Scalar.muli arg12 c512_i32_206
  v497
def k0_off18 (i : grid0.Coords) (k0_t3 : Fin (k0_t3_loop i).trips) : Fin 2 → Nat :=
  let c0_i32_191 : BitVec 32 := 0#32
  let c1_i32_193 : BitVec 32 := 1#32
  let arg12 : BitVec 32 := Scf.iv c0_i32_191 c1_i32_193 k0_t3
  let c512_i32_206 : BitVec 32 := 512#32
  let v497 : BitVec 32 := Scalar.muli arg12 c512_i32_206
  let v498 : BitVec 32 := v497
  let v499 : Index := Scalar.indexCast v498
  let c0_207 : Index := 0#32
  ![v499.toNat, 0]
def k0_off19 (i : grid0.Coords) (k0_t3 : Fin (k0_t3_loop i).trips) : Fin 2 → Nat :=
  let c0_i32_191 : BitVec 32 := 0#32
  let c1_i32_193 : BitVec 32 := 1#32
  let arg12 : BitVec 32 := Scf.iv c0_i32_191 c1_i32_193 k0_t3
  let c512_i32_206 : BitVec 32 := 512#32
  let v497 : BitVec 32 := Scalar.muli arg12 c512_i32_206
  let v498 : BitVec 32 := v497
  let v508 : Index := Scalar.indexCast v498
  let c128_209 : Index := 128#32
  ![v508.toNat, 128]
def k0_off20 (i : grid0.Coords) (k0_t3 : Fin (k0_t3_loop i).trips) : Fin 3 → Nat :=
  let c0_213 : Index := 0#32
  let c0_214 : Index := 0#32
  let c0_i32_191 : BitVec 32 := 0#32
  let c1_i32_193 : BitVec 32 := 1#32
  let arg12 : BitVec 32 := Scf.iv c0_i32_191 c1_i32_193 k0_t3
  let c512_i32_206 : BitVec 32 := 512#32
  let v497 : BitVec 32 := Scalar.muli arg12 c512_i32_206
  let v498 : BitVec 32 := v497
  let v518 : Index := Scalar.indexCast v498
  ![0, 0, v518.toNat]
@[reducible] def k0_t4_loop (i : grid0.Coords) : Scf.Loop 32 :=
  let c0_i32_191 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c1_i32_190 : BitVec 32 := 1#32
  let v469 : BitVec 32 := Scalar.addi v1 c1_i32_190
  let v470 : BitVec 32 := Scalar.subi v469 c0_i32_191
  let c1_i32_192 : BitVec 32 := 1#32
  let v472 : BitVec 32 := Scalar.divsi v470 c1_i32_192
  let v473 : BitVec 32 := Scalar.muli v472 c1_i32_192
  let v474 : BitVec 32 := Scalar.addi c0_i32_191 v473
  let v471 : BitVec 32 := Scalar.addi c0_i32_191 v470
  let c1_i32_194 : BitVec 32 := 1#32
  ⟨v474, v471, c1_i32_194⟩
def k0_mult5 (i : grid0.Coords) (k0_t4 : Fin (k0_t4_loop i).trips) : BitVec 32 :=
  let c0_i32_191 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c1_i32_190 : BitVec 32 := 1#32
  let v469 : BitVec 32 := Scalar.addi v1 c1_i32_190
  let v470 : BitVec 32 := Scalar.subi v469 c0_i32_191
  let c1_i32_192 : BitVec 32 := 1#32
  let v472 : BitVec 32 := Scalar.divsi v470 c1_i32_192
  let v473 : BitVec 32 := Scalar.muli v472 c1_i32_192
  let v474 : BitVec 32 := Scalar.addi c0_i32_191 v473
  let c1_i32_194 : BitVec 32 := 1#32
  let arg12 : BitVec 32 := Scf.iv v474 c1_i32_194 k0_t4
  let c512_i32_206 : BitVec 32 := 512#32
  let v497 : BitVec 32 := Scalar.muli arg12 c512_i32_206
  v497
def k0_off21 (i : grid0.Coords) (k0_t4 : Fin (k0_t4_loop i).trips) : Fin 2 → Nat :=
  let c0_i32_191 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c1_i32_190 : BitVec 32 := 1#32
  let v469 : BitVec 32 := Scalar.addi v1 c1_i32_190
  let v470 : BitVec 32 := Scalar.subi v469 c0_i32_191
  let c1_i32_192 : BitVec 32 := 1#32
  let v472 : BitVec 32 := Scalar.divsi v470 c1_i32_192
  let v473 : BitVec 32 := Scalar.muli v472 c1_i32_192
  let v474 : BitVec 32 := Scalar.addi c0_i32_191 v473
  let c1_i32_194 : BitVec 32 := 1#32
  let arg12 : BitVec 32 := Scf.iv v474 c1_i32_194 k0_t4
  let c512_i32_206 : BitVec 32 := 512#32
  let v497 : BitVec 32 := Scalar.muli arg12 c512_i32_206
  let v498 : BitVec 32 := v497
  let v499 : Index := Scalar.indexCast v498
  let c0_207 : Index := 0#32
  ![v499.toNat, 0]
def k0_off22 (i : grid0.Coords) (k0_t4 : Fin (k0_t4_loop i).trips) : Fin 2 → Nat :=
  let c0_i32_191 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c1_i32_190 : BitVec 32 := 1#32
  let v469 : BitVec 32 := Scalar.addi v1 c1_i32_190
  let v470 : BitVec 32 := Scalar.subi v469 c0_i32_191
  let c1_i32_192 : BitVec 32 := 1#32
  let v472 : BitVec 32 := Scalar.divsi v470 c1_i32_192
  let v473 : BitVec 32 := Scalar.muli v472 c1_i32_192
  let v474 : BitVec 32 := Scalar.addi c0_i32_191 v473
  let c1_i32_194 : BitVec 32 := 1#32
  let arg12 : BitVec 32 := Scf.iv v474 c1_i32_194 k0_t4
  let c512_i32_206 : BitVec 32 := 512#32
  let v497 : BitVec 32 := Scalar.muli arg12 c512_i32_206
  let v498 : BitVec 32 := v497
  let v508 : Index := Scalar.indexCast v498
  let c128_209 : Index := 128#32
  ![v508.toNat, 128]
def k0_off23 (i : grid0.Coords) (k0_t4 : Fin (k0_t4_loop i).trips) : Fin 3 → Nat :=
  let c0_213 : Index := 0#32
  let c0_214 : Index := 0#32
  let c0_i32_191 : BitVec 32 := 0#32
  let arg2 : BitVec 32 := BitVec.ofNat 32 (i 2).val
  let c128_i32 : BitVec 32 := 128#32
  let v0 : BitVec 32 := Scalar.muli arg2 c128_i32
  let c512_i32 : BitVec 32 := 512#32
  let v1 : BitVec 32 := Scalar.divsi v0 c512_i32
  let c1_i32_190 : BitVec 32 := 1#32
  let v469 : BitVec 32 := Scalar.addi v1 c1_i32_190
  let v470 : BitVec 32 := Scalar.subi v469 c0_i32_191
  let c1_i32_192 : BitVec 32 := 1#32
  let v472 : BitVec 32 := Scalar.divsi v470 c1_i32_192
  let v473 : BitVec 32 := Scalar.muli v472 c1_i32_192
  let v474 : BitVec 32 := Scalar.addi c0_i32_191 v473
  let c1_i32_194 : BitVec 32 := 1#32
  let arg12 : BitVec 32 := Scf.iv v474 c1_i32_194 k0_t4
  let c512_i32_206 : BitVec 32 := 512#32
  let v497 : BitVec 32 := Scalar.muli arg12 c512_i32_206
  let v498 : BitVec 32 := v497
  let v518 : Index := Scalar.indexCast v498
  ![0, 0, v518.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .smem S1x1x2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .smem S1x1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x32768x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x32768 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "sm_scale_log2e" => some (((1 / 8) * (Real.log 2)⁻¹ : ℝ) : EReal)
  | _ => none
-- ==== ReferenceIdeal.lean ====
abbrev S2x16x256 : Shape := ⟨3, ![2, 16, 256]⟩
abbrev S2x16x512 : Shape := ⟨3, ![2, 16, 512]⟩
abbrev S2x32768x1024 : Shape := ⟨3, ![2, 32768, 1024]⟩
abbrev S2x1024x32768 : Shape := ⟨3, ![2, 1024, 32768]⟩
abbrev S2x1x1024 : Shape := ⟨3, ![2, 1, 1024]⟩
abbrev S2x32768x16x64 : Shape := ⟨4, ![2, 32768, 16, 64]⟩
abbrev S2x16x32768x64 : Shape := ⟨4, ![2, 16, 32768, 64]⟩
abbrev S32x32768x64 : Shape := ⟨3, ![32, 32768, 64]⟩
abbrev S32x64x32768 : Shape := ⟨3, ![32, 64, 32768]⟩
abbrev S2x16x256x1 : Shape := ⟨4, ![2, 16, 256, 1]⟩
abbrev S2x16x256x128 : Shape := ⟨4, ![2, 16, 256, 128]⟩
abbrev S32x32768x1 : Shape := ⟨3, ![32, 32768, 1]⟩
abbrev S2x16x512x1 : Shape := ⟨4, ![2, 16, 512, 1]⟩
abbrev S2x16x512x64 : Shape := ⟨4, ![2, 16, 512, 64]⟩
abbrev S32x1x32768 : Shape := ⟨3, ![32, 1, 32768]⟩
abbrev S32x1x64 : Shape := ⟨3, ![32, 1, 64]⟩
abbrev S32x32768x32768 : Shape := ⟨3, ![32, 32768, 32768]⟩
abbrev S32x32768 : Shape := ⟨2, ![32, 32768]⟩

abbrev nBuf : Space → Nat
  | .hbm => 7
  | .vmem => 7
  | .smem => 0
  | _ => 0

abbrev bufTy : (tb : Table) → Fin (tcTables nBuf tb) → BufTy
  | .hbm, ⟨0, _⟩ => ⟨S2x16x256, .f32⟩
  | .hbm, ⟨1, _⟩ => ⟨S2x16x512, .f32⟩
  | .hbm, ⟨2, _⟩ => ⟨S2x32768x1024, .fp8e4m3⟩
  | .hbm, ⟨3, _⟩ => ⟨S2x32768x1024, .fp8e4m3⟩
  | .hbm, ⟨4, _⟩ => ⟨S2x1024x32768, .fp8e4m3⟩
  | .hbm, ⟨5, _⟩ => ⟨S2x1x1024, .f32⟩
  | .hbm, ⟨6, _⟩ => ⟨S2x32768x1024, .bf16⟩
  | .local _ .vmem, ⟨0, _⟩ => ⟨S2x16x256, .f32⟩
  | .local _ .vmem, ⟨1, _⟩ => ⟨S2x16x512, .f32⟩
  | .local _ .vmem, ⟨2, _⟩ => ⟨S2x32768x1024, .fp8e4m3⟩
  | .local _ .vmem, ⟨3, _⟩ => ⟨S2x32768x1024, .fp8e4m3⟩
  | .local _ .vmem, ⟨4, _⟩ => ⟨S2x1024x32768, .fp8e4m3⟩
  | .local _ .vmem, ⟨5, _⟩ => ⟨S2x1x1024, .f32⟩
  | .local _ .vmem, ⟨6, _⟩ => ⟨S2x32768x1024, .bf16⟩
  | _, _ => ⟨S2x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x32768x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x32768x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x32768 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x32768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/- The frame of `Kernel`: the body run once at a generic grid point, its two scratch buffers and its output
   block at contents nobody names, and the launch from it. -/
module

public import proofs.«01_k».proof.Proof.Gen.Kernel.Frame
public import proofs.«01_k».proof.Proof.Gen.Kernel.Loops

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- One run of the kernel body at any grid point: the inputs come back as they were, the output block and the
    two scratch buffers at some contents. -/
theorem sound_kernel (c : Dev nD) (E : Set ℕ) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
    (x0 : S1x1x2x256.Idx → Elt F .f32) (x1 : S1x1x2x512.Idx → Elt F .f32) (x2 : S1x128x128.Idx → Elt F .fp8e4m3) (x3 : S1x32768x128.Idx → Elt F .fp8e4m3) (x4 : S1x128x32768.Idx → Elt F .fp8e4m3) (x5 : S1x1x128.Idx → Elt F .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (∃ f, arg10.view.loc (c : Thread nD τ) ↦[arg10.view.set]{fullShare} f) ∗ (∃ f, arg11.view.loc (c : Thread nD τ) ↦[arg11.view.set]{fullShare} f)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
          ∗ (∃ f, arg10.view.loc (c : Thread nD τ) ↦[arg10.view.set]{fullShare} f) ∗ (∃ f, arg11.view.loc (c : Thread nD τ) ↦[arg11.view.set]{fullShare} f)) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11) K := by
  simp only [cc0_attention_eq_skeleton]; unfold cc0_attention_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, G0⟩, ⟨%g1, G1⟩, Hk⟩
  sl_exec
  sl_step
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; iexists _; isplitr; swap; · iexact H6
    ipureintro; rfl
  isplitl [G0]
  · iexists _; iexact G0
  iexists _; iexact G1

variable (m : (ℓ : Loc nD τ sig) → Buf (Elt F) ℓ) (ρ : Dev nD → PrngReg)

/-- The proof data: the arrays as the region finds them, each input's buffer left at its block; what is left in the
    output's buffer is forgotten (`fgt`), so its entry here is never read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
  Φ _ := Pipeline.ΦA spec0 c
  q _ := fullShare
  owed _ := 0

/-- Only the output window is forgotten. -/
def fgt : Fin cfg0.W → Bool := fun w => w == 6

/-- The arrays as the region finds them. -/
theorem A_eq (c : Dev nD) (w : Fin cfg0.W) : (dats m 0 c).A w = V m c (Pipeline.arrRef spec0 w) := by
  dsimp only [dats]

/-- The body leaves input block 0 as it was. -/
theorem after0_0 (c : Dev nD) (t : Fin cfg0.N) : (dats m 0 c).after 0 t = iblk m c 0 t := by dsimp only [dats]
/-- The body leaves input block 1 as it was. -/
theorem after0_1 (c : Dev nD) (t : Fin cfg0.N) : (dats m 0 c).after 1 t = iblk m c 1 t := by dsimp only [dats]
/-- The body leaves input block 2 as it was. -/
theorem after0_2 (c : Dev nD) (t : Fin cfg0.N) : (dats m 0 c).after 2 t = iblk m c 2 t := by dsimp only [dats]
/-- The body leaves input block 3 as it was. -/
theorem after0_3 (c : Dev nD) (t : Fin cfg0.N) : (dats m 0 c).after 3 t = iblk m c 3 t := by dsimp only [dats]
/-- The body leaves input block 4 as it was. -/
theorem after0_4 (c : Dev nD) (t : Fin cfg0.N) : (dats m 0 c).after 4 t = iblk m c 4 t := by dsimp only [dats]
/-- The body leaves input block 5 as it was. -/
theorem after0_5 (c : Dev nD) (t : Fin cfg0.N) : (dats m 0 c).after 5 t = iblk m c 5 t := by dsimp only [dats]
/-- The body finds input block 0 staged. -/
theorem before0_0 (c : Dev nD) (t : Fin cfg0.N) (d) : (dats m 0 c).before 0 t d = iblk m c 0 t :=
  before0_0_of m (dats m 0 c) (A_eq m c 0) (fun t => by dsimp only [dats]) t d
/-- The body finds input block 1 staged. -/
theorem before0_1 (c : Dev nD) (t : Fin cfg0.N) (d) : (dats m 0 c).before 1 t d = iblk m c 1 t :=
  before0_1_of m (dats m 0 c) (A_eq m c 1) (fun t => by dsimp only [dats]) t d
/-- The body finds input block 2 staged. -/
theorem before0_2 (c : Dev nD) (t : Fin cfg0.N) (d) : (dats m 0 c).before 2 t d = iblk m c 2 t :=
  before0_2_of m (dats m 0 c) (A_eq m c 2) (fun t => by dsimp only [dats]) t d
/-- The body finds input block 3 staged. -/
theorem before0_3 (c : Dev nD) (t : Fin cfg0.N) (d) : (dats m 0 c).before 3 t d = iblk m c 3 t :=
  before0_3_of m (dats m 0 c) (A_eq m c 3) (fun t => by dsimp only [dats]) t d
/-- The body finds input block 4 staged. -/
theorem before0_4 (c : Dev nD) (t : Fin cfg0.N) (d) : (dats m 0 c).before 4 t d = iblk m c 4 t :=
  before0_4_of m (dats m 0 c) (A_eq m c 4) (fun t => by dsimp only [dats]) t d
/-- The body finds input block 5 staged. -/
theorem before0_5 (c : Dev nD) (t : Fin cfg0.N) (d) : (dats m 0 c).before 5 t d = iblk m c 5 t :=
  before0_5_of m (dats m 0 c) (A_eq m c 5) (fun t => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d))

/-- The body at any point: the scratch is taken out of the region's invariant and put back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [after0_0, after0_1, after0_2, after0_3, after0_4, after0_5]
  unfold Pipeline.ΦA
  rw [scopedRest0_eq]
  iintro ⟨⟨⟨⟨%g0, G0⟩, ⟨%g1, G1⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G0]
  · iexists g0; simp only [Memref.view_whole, View.set_whole]; iexact G0
  isplitl [G1]
  · iexists g1; simp only [Memref.view_whole, View.set_whole]; iexact G1
  iintro ⟨H0, H1, H2, H3, H4, H5, ⟨%d, H6⟩, ⟨%g0', G0⟩, ⟨%g1', G1⟩⟩
  isplitl [Hr G0 G1]
  · isplitr [Hr]
    · isplitl [G0]
      · iexists g0'; simp only [Memref.view_whole, View.set_whole]; iexact G0
      · iexists g1'; simp only [Memref.view_whole, View.set_whole]; iexact G1
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The launch: every input array as the region found it, and every semaphore counter at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE FRAME: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 2 rfl).trans ((A_eq m c 2).trans (V_main_arg2 m c)),
      (h.1.arr_in c 3 rfl).trans ((A_eq m c 3).trans (V_main_arg3 m c)),
      (h.1.arr_in c 4 rfl).trans ((A_eq m c 4).trans (V_main_arg4 m c)),
      (h.1.arr_in c 5 rfl).trans ((A_eq m c 5).trans (V_main_arg5 m c))⟩, h.2⟩) (run_main_quiescent m ρ)

end Cert.Kernel.Body

end
-- ==== Proof.KernelRun.lean ====
/- One run of the kernel body of `KernelIdeal` at a generic grid point, through its four loops by their generated
   invariants: what it leaves in the output block is the run's own find, a term over the words the run names. -/
module

public import proofs.«01_k».proof.Proof.Gen.KernelIdeal.Frame
public import proofs.«01_k».proof.Proof.Gen.KernelIdeal.Loops

@[expose] public section

set_option maxRecDepth 65536
set_option maxHeartbeats 1600000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- What one run of the body writes into the output block (`.1`: a term over the payloads, in the contents of the
    six inputs and of the score scratch), and that it does: the inputs come back as they were, the two scratch
    buffers at some contents. -/
@[irreducible] def run (c : Dev nD) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
    (f0 : BufTy.Contents (Elt F) arg3.view.ty) (f1 : BufTy.Contents (Elt F) arg4.view.ty) (f2 : BufTy.Contents (Elt F) arg5.view.ty) (f3 : BufTy.Contents (Elt F) arg6.view.ty) (f4 : BufTy.Contents (Elt F) arg7.view.ty) (f5 : BufTy.Contents (Elt F) arg8.view.ty) (g0 : BufTy.Contents (Elt F) arg10.view.ty) :
    { O : FVec F S1x128x128 .bf16 // ∀ (E : Set ℕ) (K : PUnit → sProp 𝕄) (f6 : BufTy.Contents (Elt F) arg9.view.ty) (g1 : BufTy.Contents (Elt F) arg11.view.ty),
      iprop((arg3.view.loc (c : Thread nD τ) ↦[arg3.view.set]{fullShare} f0) ∗ (arg4.view.loc (c : Thread nD τ) ↦[arg4.view.set]{fullShare} f1) ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} f4) ∗ (arg8.view.loc (c : Thread nD τ) ↦[arg8.view.set]{fullShare} f5) ∗ (arg9.view.loc (c : Thread nD τ) ↦[arg9.view.set]{fullShare} f6) ∗ (arg10.view.loc (c : Thread nD τ) ↦[arg10.view.set]{fullShare} g0) ∗ (arg11.view.loc (c : Thread nD τ) ↦[arg11.view.set]{fullShare} g1)
        ∗ (iprop((arg3.view.loc (c : Thread nD τ) ↦[arg3.view.set]{fullShare} f0) ∗ (arg4.view.loc (c : Thread nD τ) ↦[arg4.view.set]{fullShare} f1) ∗ (arg5.view.loc (c : Thread nD τ) ↦[arg5.view.set]{fullShare} f2) ∗ (arg6.view.loc (c : Thread nD τ) ↦[arg6.view.set]{fullShare} f3) ∗ (arg7.view.loc (c : Thread nD τ) ↦[arg7.view.set]{fullShare} f4) ∗ (arg8.view.loc (c : Thread nD τ) ↦[arg8.view.set]{fullShare} f5)
          ∗ (arg9.view.loc (c : Thread nD τ) ↦[arg9.view.set]{fullShare} arg9.view.writes (Elt F) f6 [⟨Rect.unit (s := S1x128x128) ![0, 0, 0] S1x128x128.size inb_S1x128x128_S1x128x128_0_0_0, O⟩])
          ∗ (∃ f, (arg10.view.loc (c : Thread nD τ) ↦[arg10.view.set]{fullShare} f)) ∗ (∃ f, (arg11.view.loc (c : Thread nD τ) ↦[arg11.view.set]{fullShare} f))) -∗ K ⟨⟩))
      ⊢ wp frame (wpE (defs₀ (F := F)) Variants.none c none) E (cc0_attention i arg3 harg3 arg4 harg4 arg5 harg5 arg6 harg6 arg7 harg7 arg8 harg8 arg9 harg9 arg10 harg10 arg11 harg11) K } := by
  refine ⟨?_, fun E K f6 g1 => ?run⟩
  case run =>
    simp only [cc0_attention_eq_skeleton]; unfold cc0_attention_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    iintro ⟨H0, H1, H2, H3, H4, H5, H6, G0, G1, Hk⟩
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [G0]
    · iexists _; iexact G0
    iexists _; iexact G1

end Cert.KernelIdeal.Body

end
-- ==== Proof.Consts.lean ====
/- The float constants the two programs spell, as the extended reals their bit patterns denote. -/
module

public import Idealize.ShloMosaic.PureOps.Ideal

@[expose] public section

noncomputable section

namespace Cert.Consts

open Idealize.ShloMosaic

/-- The word of minus infinity is the least element. -/
theorem ofBits_bot : Ideal.ofBits .f32 0xFF800000#32 = ⊥ := by simp [Ideal.ofBits, Ideal.ieee]
/-- The word of 8. -/
theorem ofBits_8 : Ideal.ofBits .f32 0x41000000#32 = ((8 : ℝ) : EReal) := by
  simp [Ideal.ofBits, Ideal.ieee, -EReal.coe_mul]; norm_num
/-- The word of 1/8. -/
theorem ofBits_eighth : Ideal.ofBits .f32 0x3E000000#32 = ((1 / 8 : ℝ) : EReal) := by
  simp [Ideal.ofBits, Ideal.ieee, -EReal.coe_mul]; norm_num
/-- The word of 1/256. -/
theorem ofBits_256th : Ideal.ofBits .f32 0x3B800000#32 = ((1 / 256 : ℝ) : EReal) := by
  simp [Ideal.ofBits, Ideal.ieee, -EReal.coe_mul]; norm_num
/-- The word of 256. -/
theorem ofBits_256 : Ideal.ofBits .f32 0x43800000#32 = ((256 : ℝ) : EReal) := by
  simp [Ideal.ofBits, Ideal.ieee, -EReal.coe_mul]; norm_num
/-- The word of 448. -/
theorem ofBits_448 : Ideal.ofBits .f32 0x43E00000#32 = ((448 : ℝ) : EReal) := by
  simp [Ideal.ofBits, Ideal.ieee, -EReal.coe_mul]; norm_num
/-- The word of -448. -/
theorem ofBits_neg448 : Ideal.ofBits .f32 0xC3E00000#32 = ((-448 : ℝ) : EReal) := by
  simp [Ideal.ofBits, Ideal.ieee, -EReal.coe_mul]; norm_num

end Cert.Consts

end
-- ==== Proof.Score.lean ====
/- The attention scores as functions of the array indices, the 64 x 128 pieces the kernel computes them in, and the
   running maximum over those pieces. -/
module

public import proofs.«01_k».proof.Proof.KernelRun
public import proofs.«01_k».proof.Proof.Consts
public import Idealize.ShloMosaic.Lib.Pointwise
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

/-- One score: the product of a key's codes (row `y 0`) with row `y 1` of the masked query matrix, times the key's scale
    times the query's scale of that head. -/
def Sc (W : FVec Ideal S256x128 .fp8e4m3) (x3 : FVec Ideal S1x32768x128 .fp8e4m3) (x1 : FVec Ideal S1x1x2x512 .f32) (z0 z1 : EReal)
    (y : S32768x256.Idx) : EReal :=
  (∑ d : Fin 128, (x3 (ix3 0 (y 0) d) : EReal) * W (ix2 (y 1) d))
    * ((x1 (ix4 0 0 ⟨(y 1).val / 128, by have := (y 1).isLt; change (y 1).val < 256 at this; omega⟩ ⟨(y 0).val / 64, by have := (y 0).isLt; change (y 0).val < 32768 at this; omega⟩) : EReal) * (if (y 1).val < 128 then z0 else z1))

/-- The score with the keys after the query masked. -/
def MS (W : FVec Ideal S256x128 .fp8e4m3) (x3 : FVec Ideal S1x32768x128 .fp8e4m3) (x1 : FVec Ideal S1x1x2x512 .f32) (z0 z1 : EReal) (t : ℕ)
    (y : S32768x256.Idx) : EReal :=
  if (y 0).val ≤ 128 * t + (y 1).val % 128 then Sc W x3 x1 z0 z1 y else ⊥

/-- One product of codes and scales, at indices known only by their values, is the score. -/
theorem piece_eq {W : FVec Ideal S256x128 .fp8e4m3} {x3 : FVec Ideal S1x32768x128 .fp8e4m3} {x1 : FVec Ideal S1x1x2x512 .f32} {z0 z1 : EReal}
    {y : S32768x256.Idx} {a : Fin 32768} {b : Fin 256} {hh : Fin 2} {kb : Fin 512} {z : EReal} (ha : a.val = (y 0).val) (hb : b.val = (y 1).val)
    (hhh : hh.val = (y 1).val / 128) (hkb : kb.val = (y 0).val / 64) (hz : z = if (y 1).val < 128 then z0 else z1) :
    (∑ d : Fin 128, (x3 (ix3 0 a d) : EReal) * W (ix2 b d)) * ((x1 (ix4 0 0 hh kb) : EReal) * z) = Sc W x3 x1 z0 z1 y := by
  have ha' : a = y 0 := Fin.ext ha
  have hb' : b = y 1 := Fin.ext hb
  subst ha' hb' hz
  unfold Sc
  congr 5
  · exact Fin.ext hhh
  · exact Fin.ext hkb

/-- Row of an element of a stored piece. -/
theorem emb2_0 (o : Fin 2 → ℕ) (inb) (x0 : Fin 64) (x1 : Fin 128) :
    (((Rect.unit (s := S32768x256) o ![64, 128] inb).emb (ix2 x0 x1)) 0).val = o 0 + x0.val := by
  rw [Rect.emb_apply]; show o 0 + 1 * x0.val = _; omega
/-- Column of an element of a stored piece. -/
theorem emb2_1 (o : Fin 2 → ℕ) (inb) (x0 : Fin 64) (x1 : Fin 128) :
    (((Rect.unit (s := S32768x256) o ![64, 128] inb).emb (ix2 x0 x1)) 1).val = o 1 + x1.val := by
  rw [Rect.emb_apply]; show o 1 + 1 * x1.val = _; omega

/-- A function of an index of the score array, at two plain numbers. -/
def gN (G : S32768x256.Idx → EReal) (r q : ℕ) : EReal := if h : r < 32768 ∧ q < 256 then G (ix2 ⟨r, h.1⟩ ⟨q, h.2⟩) else ⊥

/-- Reading by natural numbers at an index. -/
theorem gN_of {G : S32768x256.Idx → EReal} {y : S32768x256.Idx} {r q : ℕ} (h0 : (y 0).val = r) (h1 : (y 1).val = q) : gN G r q = G y := by
  have l0 : (y 0).val < 32768 := (y 0).isLt
  have l1 : (y 1).val < 256 := (y 1).isLt
  subst h0 h1
  rw [gN, dif_pos ⟨l0, l1⟩]
  exact congrArg G (eq_ix2 y).symm

/-- The 64 × 128 vector `p` holds `G` at rows `R …` and columns `128 h …`. -/
def IsPiece (G : S32768x256.Idx → EReal) (R h : ℕ) (p : S64x128.Idx → EReal) : Prop :=
  ∀ (r : Fin 64) (q : Fin 128), p (ix2 r q) = gN G (R + r.val) (128 * h + q.val)

/-- A piece of the scores, at an element of the array. -/
theorem IsPiece.emb {G : S32768x256.Idx → EReal} {R h : ℕ} {p : S64x128.Idx → EReal} (hp : IsPiece G R h p)
    {o : Fin 2 → ℕ} (inb) (ho : o = ![R, 128 * h]) (x : S64x128.Idx) :
    p x = G ((Rect.unit (s := S32768x256) o S64x128.size inb).emb x) := by
  subst ho
  idx_vars x
  exact (hp x0 x1).trans (gN_of (emb2_0 _ _ _ _) (emb2_1 _ _ _ _))

/-- A piece stays a piece under a reshape to its own shape. -/
theorem IsPiece.cast {G : S32768x256.Idx → EReal} {R h : ℕ} {p : FVec Ideal S64x128 .f32} (hp : IsPiece G R h p) (hc) :
    IsPiece G R h (shapeCast S64x128 p hc) := by
  rw [shapeCast_self]; exact hp

/-- One chunk's unmasked piece for one head. -/
theorem piece_gen (arg4 : Memref sig .tc .smem S1x1x2x512 .f32) (arg6 : Memref sig .tc .vmem S1x32768x128 .fp8e4m3)
    (X4 : BufTy.Contents (Elt Ideal) arg4.view.ty) (X6 : BufTy.Contents (Elt Ideal) arg6.view.ty)
    (W : FVec Ideal S256x128 .fp8e4m3) (z z0 z1 : EReal) (T J h : ℕ) (hT : T % 64 = 0) (hh : h < 2) (hz : z = if h = 0 then z0 else z1)
    {o3 : Fin 3 → ℕ} (inb3) (ho3 : o3 = ![0, T, 0]) {o1 : Fin 4 → ℕ} (inb1) (hn1) (ho1 : o1 = ![0, 0, h, T / 64 + J])
    {so : Fin 2 → ℕ} (hs) (hso : so = ![64 * J, 128 * h]) :
    IsPiece (Sc W (arg6.view.read (Elt Ideal) X6) (arg4.view.read (Elt Ideal) X4) z0 z1) (T + 64 * J) h
      (mulf (F := Ideal) (extractStridedSlice S64x128 so (k0_pay2 (F := Ideal) W (View.readAt (Elt Ideal) arg6.view (Rect.unit (s := S1x32768x128) o3 S1x512x128.size inb3).toLoadRect X6)) hs)
        (broadcast S64x128 (Scalar.mulf (F := Ideal) (φ := .f32) (View.readAt (Elt Ideal) arg4.view (Rect.unit (s := S1x1x2x512) o1 S1x1x1x1.size inb1).toLoadRect X4 (Shape.Idx.first hn1)) z))) := by
  subst ho3 ho1 hso
  intro x0 x1
  have l0 : T + 64 * J + x0.val < 32768 := by
    have h3 := inb3 1
    have e : T + 512 ≤ 32768 := h3
    have h1 := hs.2 0
    have e1 : 64 * J + 64 ≤ 512 := h1
    omega
  have l1 : 128 * h + x1.val < 256 := by omega
  rw [gN, dif_pos ⟨l0, l1⟩]
  simp only [View.readAt_eq_ld]
  pointwise [k0_pay2]
  refine piece_eq ?_ ?_ ?_ ?_ ?_
  · show T + (64 * J + x0.val) = T + 64 * J + x0.val; omega
  · rfl
  · show h = (128 * h + x1.val) / 128; omega
  · show T / 64 + J = (T + 64 * J + x0.val) / 64; omega
  · refine hz.trans (if_congr ?_ rfl rfl)
    show h = 0 ↔ 128 * h + x1.val < 128
    omega

/-- Rows at or before every query of the tile: the mask leaves them. -/
theorem IsPiece.mask {W : FVec Ideal S256x128 .fp8e4m3} {x3 : FVec Ideal S1x32768x128 .fp8e4m3} {x1 : FVec Ideal S1x1x2x512 .f32} {z0 z1 : EReal}
    {R h t : ℕ} {p : S64x128.Idx → EReal} (hp : IsPiece (Sc W x3 x1 z0 z1) R h p) (hR : R + 63 ≤ 128 * t) : IsPiece (MS W x3 x1 z0 z1 t) R h p := by
  intro r q
  rw [hp r q, gN, gN]
  by_cases hb : R + r.val < 32768 ∧ 128 * h + q.val < 256
  · rw [dif_pos hb, dif_pos hb, MS, if_pos]
    show R + r.val ≤ 128 * t + (128 * h + q.val) % 128
    omega
  · rw [dif_neg hb, dif_neg hb]

/-- The word of minus infinity is the least element. -/
theorem ofBits_bot : Ideal.ofBits .f32 0xFF800000#32 = ⊥ := Cert.Consts.ofBits_bot

/-- The piece of the chunk on the diagonal, masked by the comparison of two iotas. -/
theorem piece_mask {W : FVec Ideal S256x128 .fp8e4m3} {x3 : FVec Ideal S1x32768x128 .fp8e4m3} {x1 : FVec Ideal S1x1x2x512 .f32} {z0 z1 : EReal}
    {J n h t v : ℕ} {p : FVec Ideal S64x128 .f32} (hp : IsPiece (Sc W x3 x1 z0 z1) (512 * n + 64 * J) h p) (hv : 512 * n + v = 128 * t) (hv5 : v < 512) (hJ : J < 8)
    (h1 h2) (w8 : BitVec 32) (hw : w8 = BitVec.ofNat 32 v) (wJ : BitVec 32) (hwJ : wJ = BitVec.ofNat 32 (64 * J)) :
    IsPiece (MS W x3 x1 z0 z1 t) (512 * n + 64 * J) h
      (select (cmpi .sle (addi (iota .tc S64x128 32 [0] h1) (broadcast S64x128 wJ)) (addi (iota .tc S64x128 32 [1] h2) (broadcast S64x128 w8))) p
        (broadcast S64x128 (Scalar.ofBits (F := Ideal) .f32 0xFF800000#32))) := by
  subst hw hwJ
  intro r q
  have e : gN (MS W x3 x1 z0 z1 t) (512 * n + 64 * J + r.val) (128 * h + q.val) = if 64 * J + r.val ≤ q.val + v then p (ix2 r q) else ⊥ := by
    rw [hp r q, gN, gN]
    by_cases hb : 512 * n + 64 * J + r.val < 32768 ∧ 128 * h + q.val < 256
    · rw [dif_pos hb, dif_pos hb, MS]
      refine if_congr ?_ rfl rfl
      show 512 * n + 64 * J + r.val ≤ 128 * t + (128 * h + q.val) % 128 ↔ _
      omega
    · rw [dif_neg hb, dif_neg hb, ite_self]
  rw [e]
  pointwise
  have hr := r.isLt
  have hq := q.isLt
  have ea : ∀ a b : ℕ, IntOp.addi (BitVec.ofNat 32 a) (BitVec.ofNat 32 b) = BitVec.ofNat 32 (a + b) := fun a b => (BitVec.ofNat_add a b).symm
  rw [ea, ea, Scalar.select, ofBits_bot]
  refine if_congr ((Idealize.ShloMosaic.WordCmp.cmpi_sle_ofNat_eq_one_iff (by norm_num; omega) (by norm_num; omega)).trans ?_) rfl rfl
  omega

/-- The running maximum `a` (eight rows: one for each residue of the key's row) bounds the first `T` rows of `G`. -/
def IsMax (G : S32768x256.Idx → EReal) (T h : ℕ) (a : S8x128.Idx → EReal) : Prop :=
  ∀ (s : Fin 8) (q : Fin 128) (z : EReal), a (ix2 s q) ≤ z ↔ ∀ r < T, r % 8 = s.val → gN G r (128 * h + q.val) ≤ z

/-- One more piece taken into the running maximum. -/
theorem IsMax.step {G : S32768x256.Idx → EReal} {T h : ℕ} {a : FVec Ideal S8x128 .f32} {p : FVec Ideal S64x128 .f32} (ha : IsMax G T h a)
    (hp : IsPiece G T h p) (hT : T % 8 = 0) (hc h1 h2 h3) :
    IsMax G (T + 64) h (maximumf (F := Ideal) a (multiReduction (F := Ideal) .maximumf [0] S8x128 (shapeCast S8x8x128 p hc) 0xFF800000#32 h1 h2 h3)) := by
  intro s q z
  have hs := s.isLt
  pointwise
  rw [max_le_iff, ha s q z, Finset.fold_max_le, ofBits_bot]
  constructor
  · rintro ⟨h1, -, h2⟩ r hr hrs
    by_cases hrT : r < T
    · exact h1 r hrT hrs
    · have h3 := h2 ⟨(r - T) / 8, by omega⟩ (Finset.mem_univ _)
      have e := hp ⟨(r - T) / 8 * 8 + s.val, by omega⟩ q
      have e2 : T + ((r - T) / 8 * 8 + s.val) = r := by omega
      simp only [e2] at e
      exact e ▸ h3
  · intro H
    refine ⟨fun r hr hrs => H r (by omega) hrs, bot_le, fun u _ => ?_⟩
    have hu := u.isLt
    have e := hp ⟨u.val * 8 + s.val, by omega⟩ q
    refine e.trans_le (H _ ?_ ?_)
    · show T + (u.val * 8 + s.val) < _; omega
    · show (T + (u.val * 8 + s.val)) % 8 = _; omega

/-- The running maximum before any piece. -/
theorem IsMax.zero (G : S32768x256.Idx → EReal) (h : ℕ) : IsMax G 0 h (broadcast S8x128 (Scalar.ofBits (F := Ideal) .f32 0xFF800000#32)) := by
  intro s q z
  pointwise
  rw [ofBits_bot]
  exact ⟨fun _ r hr => absurd hr (Nat.not_lt_zero _), fun _ => bot_le⟩

end Cert.KernelIdeal.Value

end
-- ==== Proof.T1.lean ====
/- The loop over the whole chunks before the diagonal: the 16 pieces of scores a trip writes, the two running maxima
   it hands on, and what the loop has done before any trip. -/
module

public import proofs.«01_k».proof.Proof.Score

@[expose] public section

set_option maxRecDepth 16384

noncomputable section

namespace Cert.KernelIdeal.Value

open Idealize.ShloMosaic Idealize.ShloMosaic.TcCoe Idealize.SL.Sem
open Cert.KernelIdeal Cert.KernelIdeal.Gen

variable (𝒱 : Variants) (c : Dev nD) (bd : Option 𝒱.V) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
  (arg2 : BitVec 32) (v1 : BitVec 32) (v3 : FVec Ideal S128x128 .fp8e4m3) (v4 : IVec S128x128 32) (v32 : FVec Ideal S128x128 .fp8e4m3) (c64_i32_7 : BitVec 32) (v34 : IVec S128x128 32) (v37 : IVec S128x128 32) (v39 : IVec S128x128 1) (v63 : Elt Ideal .f32) (v66 : Elt Ideal .f32) (X4 : BufTy.Contents (Elt Ideal) arg4.view.ty) (X6 : BufTy.Contents (Elt Ideal) arg6.view.ty) (k : Fin (k0_t1_loop i).trips)

/-- The score loop runs once for each chunk before the diagonal. -/
theorem t1_trips (i : grid0.Coords) : (k0_t1_loop i).trips = 128 * (i 2).val / 512 := by
  have h : ∀ n : Fin 256, Scf.trips 0#32 (Scalar.addi 0#32 (Scalar.muli (Scalar.divsi (Scalar.subi (Scalar.divsi
      (Scalar.muli (BitVec.ofNat 32 n.val) 128#32) 512#32) 0#32) 1#32) 1#32)) 1#32 = 128 * n.val / 512 := by decide +kernel
  exact h ⟨(i 2).val, (i 2).isLt⟩

/-- Every piece stored in one trip holds scores. -/
theorem t1_pieces (acc) : ∀ p ∈ tripL_k0_t1 (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 k acc, ∀ x,
    p.2 x = (MS (k0_pay83 v3 v4 v32 c64_i32_7 v34 v37 v39) (arg6.view.read (Elt Ideal) X6) (arg4.view.read (Elt Ideal) X4) (k0_pay84 v63) (k0_pay85 v66) (i 2).val) (p.1.emb x) := by
  have hk : k.val < 128 * (i 2).val / 512 := lt_of_lt_of_eq k.isLt (t1_trips i)
  unfold tripL_k0_t1 trip_k0_t1
  dsimp only
  simp only [List.forall_mem_cons]
  refine ⟨?_, ?_, ?_, ?_, ?_, ?_, ?_, ?_, ?_, ?_, ?_, ?_, ?_, ?_, ?_, ?_, fun p hp => absurd hp List.not_mem_nil⟩
  · exact (((piece_gen arg4 arg6 X4 X6 (k0_pay83 v3 v4 v32 c64_i32_7 v34 v37 v39) (k0_pay85 v66) (k0_pay84 v63) (k0_pay85 v66) (512 * k.val) 7 1 (by omega) (by omega) (by simp) _ (k0_off3_eq i k) _ _ (((k0_off6_eq i k 7).trans (by simp; omega))) _ rfl).mask (t := (i 2).val) (by omega)).cast _).emb _ ((k0_off7_eq i k 7).trans (by simp))
  · exact (((piece_gen arg4 arg6 X4 X6 (k0_pay83 v3 v4 v32 c64_i32_7 v34 v37 v39) (k0_pay85 v66) (k0_pay84 v63) (k0_pay85 v66) (512 * k.val) 6 1 (by omega) (by omega) (by simp) _ (k0_off3_eq i k) _ _ (((k0_off6_eq i k 6).trans (by simp; omega))) _ rfl).mask (t := (i 2).val) (by omega)).cast _).emb _ ((k0_off7_eq i k 6).trans (by simp))
  · exact (((piece_gen arg4 arg6 X4 X6 (k0_pay83 v3 v4 v32 c64_i32_7 v34 v37 v39) (k0_pay85 v66) (k0_pay84 v63) (k0_pay85 v66) (512 * k.val) 5 1 (by omega) (by omega) (by simp) _ (k0_off3_eq i k) _ _ (((k0_off6_eq i k 5).trans (by simp; omega))) _ rfl).mask (t := (i 2).val) (by omega)).cast _).emb _ ((k0_off7_eq i k 5).trans (by simp))
  · exact (((piece_gen arg4 arg6 X4 X6 (k0_pay83 v3 v4 v32 c64_i32_7 v34 v37 v39) (k0_pay85 v66) (k0_pay84 v63) (k0_pay85 v66) (512 * k.val) 4 1 (by omega) (by omega) (by simp) _ (k0_off3_eq i k) _ _ (((k0_off6_eq i k 4).trans (by simp; omega))) _ rfl).mask (t := (i 2).val) (by omega)).cast _).emb _ ((k0_off7_eq i k 4).trans (by simp))
  · exact (((piece_gen arg4 arg6 X4 X6 (k0_pay83 v3 v4 v32 c64_i32_7 v34 v37 v39) (k0_pay85 v66) (k0_pay84 v63) (k0_pay85 v66) (512 * k.val) 3 1 (by omega) (by omega) (by simp) _ (k0_off3_eq i k) _ _ (((k0_off6_eq i k 3).trans (by simp; omega))) _ rfl).mask (t := (i 2).val) (by omega)).cast _).emb _ ((k0_off7_eq i k 3).trans (by simp))
  · exact (((piece_gen arg4 arg6 X4 X6 (k0_pay83 v3 v4 v32 c64_i32_7 v34 v37 v39) (k0_pay85 v66) (k0_pay84 v63) (k0_pay85 v66) (512 * k.val) 2 1 (by omega) (by omega) (by simp) _ (k0_off3_eq i k) _ _ (((k0_off6_eq i k 2).trans (by simp; omega))) _ rfl).mask (t := (i 2).val) (by omega)).cast _).emb _ ((k0_off7_eq i k 2).trans (by simp))
  · exact (((piece_gen arg4 arg6 X4 X6 (k0_pay83 v3 v4 v32 c64_i32_7 v34 v37 v39) (k0_pay85 v66) (k0_pay84 v63) (k0_pay85 v66) (512 * k.val) 1 1 (by omega) (by omega) (by simp) _ (k0_off3_eq i k) _ _ (((k0_off6_eq i k 1).trans (by simp; omega))) _ rfl).mask (t := (i 2).val) (by omega)).cast _).emb _ ((k0_off7_eq i k 1).trans (by simp))
  · exact (((piece_gen arg4 arg6 X4 X6 (k0_pay83 v3 v4 v32 c64_i32_7 v34 v37 v39) (k0_pay85 v66) (k0_pay84 v63) (k0_pay85 v66) (512 * k.val) 0 1 (by omega) (by omega) (by simp) _ (k0_off3_eq i k) _ _ (((k0_off6_eq i k 0).trans (by simp; omega))) _ rfl).mask (t := (i 2).val) (by omega)).cast _).emb _ ((k0_off7_eq i k 0).trans (by simp))
  · exact (((piece_gen arg4 arg6 X4 X6 (k0_pay83 v3 v4 v32 c64_i32_7 v34 v37 v39) (k0_pay84 v63) (k0_pay84 v63) (k0_pay85 v66) (512 * k.val) 7 0 (by omega) (by omega) (by simp) _ (k0_off3_eq i k) _ _ (((k0_off4_eq i k 7).trans (by simp; omega))) _ rfl).mask (t := (i 2).val) (by omega)).cast _).emb _ ((k0_off5_eq i k 7).trans (by simp))
  · exact (((piece_gen arg4 arg6 X4 X6 (k0_pay83 v3 v4 v32 c64_i32_7 v34 v37 v39) (k0_pay84 v63) (k0_pay84 v63) (k0_pay85 v66) (512 * k.val) 6 0 (by omega) (by omega) (by simp) _ (k0_off3_eq i k) _ _ (((k0_off4_eq i k 6).trans (by simp; omega))) _ rfl).mask (t := (i 2).val) (by omega)).cast _).emb _ ((k0_off5_eq i k 6).trans (by simp))
  · exact (((piece_gen arg4 arg6 X4 X6 (k0_pay83 v3 v4 v32 c64_i32_7 v34 v37 v39) (k0_pay84 v63) (k0_pay84 v63) (k0_pay85 v66) (512 * k.val) 5 0 (by omega) (by omega) (by simp) _ (k0_off3_eq i k) _ _ (((k0_off4_eq i k 5).trans (by simp; omega))) _ rfl).mask (t := (i 2).val) (by omega)).cast _).emb _ ((k0_off5_eq i k 5).trans (by simp))
  · exact (((piece_gen arg4 arg6 X4 X6 (k0_pay83 v3 v4 v32 c64_i32_7 v34 v37 v39) (k0_pay84 v63) (k0_pay84 v63) (k0_pay85 v66) (512 * k.val) 4 0 (by omega) (by omega) (by simp) _ (k0_off3_eq i k) _ _ (((k0_off4_eq i k 4).trans (by simp; omega))) _ rfl).mask (t := (i 2).val) (by omega)).cast _).emb _ ((k0_off5_eq i k 4).trans (by simp))
  · exact (((piece_gen arg4 arg6 X4 X6 (k0_pay83 v3 v4 v32 c64_i32_7 v34 v37 v39) (k0_pay84 v63) (k0_pay84 v63) (k0_pay85 v66) (512 * k.val) 3 0 (by omega) (by omega) (by simp) _ (k0_off3_eq i k) _ _ (((k0_off4_eq i k 3).trans (by simp; omega))) _ rfl).mask (t := (i 2).val) (by omega)).cast _).emb _ ((k0_off5_eq i k 3).trans (by simp))
  · exact (((piece_gen arg4 arg6 X4 X6 (k0_pay83 v3 v4 v32 c64_i32_7 v34 v37 v39) (k0_pay84 v63) (k0_pay84 v63) (k0_pay85 v66) (512 * k.val) 2 0 (by omega) (by omega) (by simp) _ (k0_off3_eq i k) _ _ (((k0_off4_eq i k 2).trans (by simp; omega))) _ rfl).mask (t := (i 2).val) (by omega)).cast _).emb _ ((k0_off5_eq i k 2).trans (by simp))
  · exact (((piece_gen arg4 arg6 X4 X6 (k0_pay83 v3 v4 v32 c64_i32_7 v34 v37 v39) (k0_pay84 v63) (k0_pay84 v63) (k0_pay85 v66) (512 * k.val) 1 0 (by omega) (by omega) (by simp) _ (k0_off3_eq i k) _ _ (((k0_off4_eq i k 1).trans (by simp; omega))) _ rfl).mask (t := (i 2).val) (by omega)).cast _).emb _ ((k0_off5_eq i k 1).trans (by simp))
  · exact (((piece_gen arg4 arg6 X4 X6 (k0_pay83 v3 v4 v32 c64_i32_7 v34 v37 v39) (k0_pay84 v63) (k0_pay84 v63) (k0_pay85 v66) (512 * k.val) 0 0 (by omega) (by omega) (by simp) _ (k0_off3_eq i k) _ _ (((k0_off4_eq i k 0).trans (by simp; omega))) _ rfl).mask (t := (i 2).val) (by omega)).cast _).emb _ ((k0_off5_eq i k 0).trans (by simp))

/-- One trip takes its chunk into both running maxima. -/
theorem t1_max (acc) (hA0 : IsMax (MS (k0_pay83 v3 v4 v32 c64_i32_7 v34 v37 v39) (arg6.view.read (Elt Ideal) X6) (arg4.view.read (Elt Ideal) X4) (k0_pay84 v63) (k0_pay85 v66) (i 2).val) (512 * k.val) 0 acc.1) (hA1 : IsMax (MS (k0_pay83 v3 v4 v32 c64_i32_7 v34 v37 v39) (arg6.view.read (Elt Ideal) X6) (arg4.view.read (Elt Ideal) X4) (k0_pay84 v63) (k0_pay85 v66) (i 2).val) (512 * k.val) 1 acc.2) :
    IsMax (MS (k0_pay83 v3 v4 v32 c64_i32_7 v34 v37 v39) (arg6.view.read (Elt Ideal) X6) (arg4.view.read (Elt Ideal) X4) (k0_pay84 v63) (k0_pay85 v66) (i 2).val) (512 * (k.val + 1)) 0 (tripR_k0_t1 (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 k acc).1
    ∧ IsMax (MS (k0_pay83 v3 v4 v32 c64_i32_7 v34 v37 v39) (arg6.view.read (Elt Ideal) X6) (arg4.view.read (Elt Ideal) X4) (k0_pay84 v63) (k0_pay85 v66) (i 2).val) (512 * (k.val + 1)) 1 (tripR_k0_t1 (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 k acc).2 := by
  have hk : k.val < 128 * (i 2).val / 512 := lt_of_lt_of_eq k.isLt (t1_trips i)
  unfold tripR_k0_t1 trip_k0_t1
  dsimp only
  have e : 512 * (k.val + 1) = 512 * k.val + 448 + 64 := by omega
  rw [e]
  constructor
  · exact ((((((((hA0.step (T := 512 * k.val + 0) ((piece_gen arg4 arg6 X4 X6 (k0_pay83 v3 v4 v32 c64_i32_7 v34 v37 v39) (k0_pay84 v63) (k0_pay84 v63) (k0_pay85 v66) (512 * k.val) 0 0 (by omega) (by omega) (by simp) _ (k0_off3_eq i k) _ _ (((k0_off4_eq i k 0).trans (by simp; omega))) _ rfl).mask (t := (i 2).val) (by omega)) (by omega) _ _ _ _).step (T := 512 * k.val + 64) ((piece_gen arg4 arg6 X4 X6 (k0_pay83 v3 v4 v32 c64_i32_7 v34 v37 v39) (k0_pay84 v63) (k0_pay84 v63) (k0_pay85 v66) (512 * k.val) 1 0 (by omega) (by omega) (by simp) _ (k0_off3_eq i k) _ _ (((k0_off4_eq i k 1).trans (by simp; omega))) _ rfl).mask (t := (i 2).val) (by omega)) (by omega) _ _ _ _).step (T := 512 * k.val + 128) ((piece_gen arg4 arg6 X4 X6 (k0_pay83 v3 v4 v32 c64_i32_7 v34 v37 v39) (k0_pay84 v63) (k0_pay84 v63) (k0_pay85 v66) (512 * k.val) 2 0 (by omega) (by omega) (by simp) _ (k0_off3_eq i k) _ _ (((k0_off4_eq i k 2).trans (by simp; omega))) _ rfl).mask (t := (i 2).val) (by omega)) (by omega) _ _ _ _).step (T := 512 * k.val + 192) ((piece_gen arg4 arg6 X4 X6 (k0_pay83 v3 v4 v32 c64_i32_7 v34 v37 v39) (k0_pay84 v63) (k0_pay84 v63) (k0_pay85 v66) (512 * k.val) 3 0 (by omega) (by omega) (by simp) _ (k0_off3_eq i k) _ _ (((k0_off4_eq i k 3).trans (by simp; omega))) _ rfl).mask (t := (i 2).val) (by omega)) (by omega) _ _ _ _).step (T := 512 * k.val + 256) ((piece_gen arg4 arg6 X4 X6 (k0_pay83 v3 v4 v32 c64_i32_7 v34 v37 v39) (k0_pay84 v63) (k0_pay84 v63) (k0_pay85 v66) (512 * k.val) 4 0 (by omega) (by omega) (by simp) _ (k0_off3_eq i k) _ _ (((k0_off4_eq i k 4).trans (by simp; omega))) _ rfl).mask (t := (i 2).val) (by omega)) (by omega) _ _ _ _).step (T := 512 * k.val + 320) ((piece_gen arg4 arg6 X4 X6 (k0_pay83 v3 v4 v32 c64_i32_7 v34 v37 v39) (k0_pay84 v63) (k0_pay84 v63) (k0_pay85 v66) (512 * k.val) 5 0 (by omega) (by omega) (by simp) _ (k0_off3_eq i k) _ _ (((k0_off4_eq i k 5).trans (by simp; omega))) _ rfl).mask (t := (i 2).val) (by omega)) (by omega) _ _ _ _).step (T := 512 * k.val + 384) ((piece_gen arg4 arg6 X4 X6 (k0_pay83 v3 v4 v32 c64_i32_7 v34 v37 v39) (k0_pay84 v63) (k0_pay84 v63) (k0_pay85 v66) (512 * k.val) 6 0 (by omega) (by omega) (by simp) _ (k0_off3_eq i k) _ _ (((k0_off4_eq i k 6).trans (by simp; omega))) _ rfl).mask (t := (i 2).val) (by omega)) (by omega) _ _ _ _).step (T := 512 * k.val + 448) ((piece_gen arg4 arg6 X4 X6 (k0_pay83 v3 v4 v32 c64_i32_7 v34 v37 v39) (k0_pay84 v63) (k0_pay84 v63) (k0_pay85 v66) (512 * k.val) 7 0 (by omega) (by omega) (by simp) _ (k0_off3_eq i k) _ _ (((k0_off4_eq i k 7).trans (by simp; omega))) _ rfl).mask (t := (i 2).val) (by omega)) (by omega) _ _ _ _)
  · exact ((((((((hA1.step (T := 512 * k.val + 0) ((piece_gen arg4 arg6 X4 X6 (k0_pay83 v3 v4 v32 c64_i32_7 v34 v37 v39) (k0_pay85 v66) (k0_pay84 v63) (k0_pay85 v66) (512 * k.val) 0 1 (by omega) (by omega) (by simp) _ (k0_off3_eq i k) _ _ (((k0_off6_eq i k 0).trans (by simp; omega))) _ rfl).mask (t := (i 2).val) (by omega)) (by omega) _ _ _ _).step (T := 512 * k.val + 64) ((piece_gen arg4 arg6 X4 X6 (k0_pay83 v3 v4 v32 c64_i32_7 v34 v37 v39) (k0_pay85 v66) (k0_pay84 v63) (k0_pay85 v66) (512 * k.val) 1 1 (by omega) (by omega) (by simp) _ (k0_off3_eq i k) _ _ (((k0_off6_eq i k 1).trans (by simp; omega))) _ rfl).mask (t := (i 2).val) (by omega)) (by omega) _ _ _ _).step (T := 512 * k.val + 128) ((piece_gen arg4 arg6 X4 X6 (k0_pay83 v3 v4 v32 c64_i32_7 v34 v37 v39) (k0_pay85 v66) (k0_pay84 v63) (k0_pay85 v66) (512 * k.val) 2 1 (by omega) (by omega) (by simp) _ (k0_off3_eq i k) _ _ (((k0_off6_eq i k 2).trans (by simp; omega))) _ rfl).mask (t := (i 2).val) (by omega)) (by omega) _ _ _ _).step (T := 512 * k.val + 192) ((piece_gen arg4 arg6 X4 X6 (k0_pay83 v3 v4 v32 c64_i32_7 v34 v37 v39) (k0_pay85 v66) (k0_pay84 v63) (k0_pay85 v66) (512 * k.val) 3 1 (by omega) (by omega) (by simp) _ (k0_off3_eq i k) _ _ (((k0_off6_eq i k 3).trans (by simp; omega))) _ rfl).mask (t := (i 2).val) (by omega)) (by omega) _ _ _ _).step (T := 512 * k.val + 256) ((piece_gen arg4 arg6 X4 X6 (k0_pay83 v3 v4 v32 c64_i32_7 v34 v37 v39) (k0_pay85 v66) (k0_pay84 v63) (k0_pay85 v66) (512 * k.val) 4 1 (by omega) (by omega) (by simp) _ (k0_off3_eq i k) _ _ (((k0_off6_eq i k 4).trans (by simp; omega))) _ rfl).mask (t := (i 2).val) (by omega)) (by omega) _ _ _ _).step (T := 512 * k.val + 320) ((piece_gen arg4 arg6 X4 X6 (k0_pay83 v3 v4 v32 c64_i32_7 v34 v37 v39) (k0_pay85 v66) (k0_pay84 v63) (k0_pay85 v66) (512 * k.val) 5 1 (by omega) (by omega) (by simp) _ (k0_off3_eq i k) _ _ (((k0_off6_eq i k 5).trans (by simp; omega))) _ rfl).mask (t := (i 2).val) (by omega)) (by omega) _ _ _ _).step (T := 512 * k.val + 384) ((piece_gen arg4 arg6 X4 X6 (k0_pay83 v3 v4 v32 c64_i32_7 v34 v37 v39) (k0_pay85 v66) (k0_pay84 v63) (k0_pay85 v66) (512 * k.val) 6 1 (by omega) (by omega) (by simp) _ (k0_off3_eq i k) _ _ (((k0_off6_eq i k 6).trans (by simp; omega))) _ rfl).mask (t := (i 2).val) (by omega)) (by omega) _ _ _ _).step (T := 512 * k.val + 448) ((piece_gen arg4 arg6 X4 X6 (k0_pay83 v3 v4 v32 c64_i32_7 v34 v37 v39) (k0_pay85 v66) (k0_pay84 v63) (k0_pay85 v66) (512 * k.val) 7 1 (by omega) (by omega) (by simp) _ (k0_off3_eq i k) _ _ (((k0_off6_eq i k 7).trans (by simp; omega))) _ rfl).mask (t := (i 2).val) (by omega)) (by omega) _ _ _ _)

/-- Membership in a stored piece, by row and column. -/
theorem mem_piece {o : Fin 2 → ℕ} (inb : ∀ a, o a + S64x128.size a ≤ S32768x256.size a) {R C : ℕ} (ho : o = ![R, C]) (y : S32768x256.Idx)
    (h0 : R ≤ (y 0).val) (h1 : (y 0).val < R + 64) (h2 : C ≤ (y 1).val) (h3 : (y 1).val < C + 128) :
    y ∈ (Rect.unit (s := S32768x256) o S64x128.size inb).set := by
  subst ho
  rw [Rect.mem_set_unit]
  intro a
  fin_cases a
  · exact ⟨h0, h1⟩
  · exact ⟨h2, h3⟩

/-- The pieces of one trip cover the rows of its chunk. -/
theorem t1_cover (acc) (y : S32768x256.Idx) (h0 : 512 * k.val ≤ (y 0).val) (h1 : (y 0).val < 512 * (k.val + 1)) :
    ∃ p ∈ tripL_k0_t1 (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 k acc, y ∈ p.1.set := by
  have hy : (y 1).val < 256 := (y 1).isLt
  unfold tripL_k0_t1 trip_k0_t1
  dsimp only
  by_cases g : 128 ≤ (y 1).val
  · by_cases g7 : 512 * k.val + 448 ≤ (y 0).val
    · exact ⟨_, (List.Mem.head _), by exact mem_piece (R := 512 * k.val + 448) (C := 128) (k0_off7_inb i k 7) ((k0_off7_eq i k 7).trans (by simp)) y (by omega) (by omega) (by omega) (by omega)⟩
    by_cases g6 : 512 * k.val + 384 ≤ (y 0).val
    · exact ⟨_, (List.Mem.tail _ (List.Mem.head _)), by exact mem_piece (R := 512 * k.val + 384) (C := 128) (k0_off7_inb i k 6) ((k0_off7_eq i k 6).trans (by simp)) y (by omega) (by omega) (by omega) (by omega)⟩
    by_cases g5 : 512 * k.val + 320 ≤ (y 0).val
    · exact ⟨_, (List.Mem.tail _ (List.Mem.tail _ (List.Mem.head _))), by exact mem_piece (R := 512 * k.val + 320) (C := 128) (k0_off7_inb i k 5) ((k0_off7_eq i k 5).trans (by simp)) y (by omega) (by omega) (by omega) (by omega)⟩
    by_cases g4 : 512 * k.val + 256 ≤ (y 0).val
    · exact ⟨_, (List.Mem.tail _ (List.Mem.tail _ (List.Mem.tail _ (List.Mem.head _)))), by exact mem_piece (R := 512 * k.val + 256) (C := 128) (k0_off7_inb i k 4) ((k0_off7_eq i k 4).trans (by simp)) y (by omega) (by omega) (by omega) (by omega)⟩
    by_cases g3 : 512 * k.val + 192 ≤ (y 0).val
    · exact ⟨_, (List.Mem.tail _ (List.Mem.tail _ (List.Mem.tail _ (List.Mem.tail _ (List.Mem.head _))))), by exact mem_piece (R := 512 * k.val + 192) (C := 128) (k0_off7_inb i k 3) ((k0_off7_eq i k 3).trans (by simp)) y (by omega) (by omega) (by omega) (by omega)⟩
    by_cases g2 : 512 * k.val + 128 ≤ (y 0).val
    · exact ⟨_, (List.Mem.tail _ (List.Mem.tail _ (List.Mem.tail _ (List.Mem.tail _ (List.Mem.tail _ (List.Mem.head _)))))), by exact mem_piece (R := 512 * k.val + 128) (C := 128) (k0_off7_inb i k 2) ((k0_off7_eq i k 2).trans (by simp)) y (by omega) (by omega) (by omega) (by omega)⟩
    by_cases g1 : 512 * k.val + 64 ≤ (y 0).val
    · exact ⟨_, (List.Mem.tail _ (List.Mem.tail _ (List.Mem.tail _ (List.Mem.tail _ (List.Mem.tail _ (List.Mem.tail _ (List.Mem.head _))))))), by exact mem_piece (R := 512 * k.val + 64) (C := 128) (k0_off7_inb i k 1) ((k0_off7_eq i k 1).trans (by simp)) y (by omega) (by omega) (by omega) (by omega)⟩
    exact ⟨_, (List.Mem.tail _ (List.Mem.tail _ (List.Mem.tail _ (List.Mem.tail _ (List.Mem.tail _ (List.Mem.tail _ (List.Mem.tail _ (List.Mem.head _)))))))), by exact mem_piece (R := 512 * k.val + 0) (C := 128) (k0_off7_inb i k 0) ((k0_off7_eq i k 0).trans (by simp)) y (by omega) (by omega) (by omega) (by omega)⟩
  · by_cases g7 : 512 * k.val + 448 ≤ (y 0).val
    · exact ⟨_, (List.Mem.tail _ (List.Mem.tail _ (List.Mem.tail _ (List.Mem.tail _ (List.Mem.tail _ (List.Mem.tail _ (List.Mem.tail _ (List.Mem.tail _ (List.Mem.head _))))))))), by exact mem_piece (R := 512 * k.val + 448) (C := 0) (k0_off5_inb i k 7) ((k0_off5_eq i k 7).trans (by simp)) y (by omega) (by omega) (by omega) (by omega)⟩
    by_cases g6 : 512 * k.val + 384 ≤ (y 0).val
    · exact ⟨_, (List.Mem.tail _ (List.Mem.tail _ (List.Mem.tail _ (List.Mem.tail _ (List.Mem.tail _ (List.Mem.tail _ (List.Mem.tail _ (List.Mem.tail _ (List.Mem.tail _ (List.Mem.head _)))))))))), by exact mem_piece (R := 512 * k.val + 384) (C := 0) (k0_off5_inb i k 6) ((k0_off5_eq i k 6).trans (by simp)) y (by omega) (by omega) (by omega) (by omega)⟩
    by_cases g5 : 512 * k.val + 320 ≤ (y 0).val
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), by exact mem_piece (R := 512 * k.val + 320) (C := 0) (k0_off5_inb i k 5) ((k0_off5_eq i k 5).trans (by simp)) y (by omega) (by omega) (by omega) (by omega)⟩
    by_cases g4 : 512 * k.val + 256 ≤ (y 0).val
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), by exact mem_piece (R := 512 * k.val + 256) (C := 0) (k0_off5_inb i k 4) ((k0_off5_eq i k 4).trans (by simp)) y (by omega) (by omega) (by omega) (by omega)⟩
    by_cases g3 : 512 * k.val + 192 ≤ (y 0).val
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), by exact mem_piece (R := 512 * k.val + 192) (C := 0) (k0_off5_inb i k 3) ((k0_off5_eq i k 3).trans (by simp)) y (by omega) (by omega) (by omega) (by omega)⟩
    by_cases g2 : 512 * k.val + 128 ≤ (y 0).val
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), by exact mem_piece (R := 512 * k.val + 128) (C := 0) (k0_off5_inb i k 2) ((k0_off5_eq i k 2).trans (by simp)) y (by omega) (by omega) (by omega) (by omega)⟩
    by_cases g1 : 512 * k.val + 64 ≤ (y 0).val
    · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), by exact mem_piece (R := 512 * k.val + 64) (C := 0) (k0_off5_inb i k 1) ((k0_off5_eq i k 1).trans (by simp)) y (by omega) (by omega) (by omega) (by omega)⟩
    exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), by exact mem_piece (R := 512 * k.val + 0) (C := 0) (k0_off5_inb i k 0) ((k0_off5_eq i k 0).trans (by simp)) y (by omega) (by omega) (by omega) (by omega)⟩

/-- What the loop has done before trip `k`: every piece written agrees with the scores, the rows below `512 k` are
   written, and the carried vectors are the maxima of those rows. -/
def T1Inv (G : S32768x256.Idx → EReal) (k : ℕ) (st : (FVec Ideal S8x128 .f32 × FVec Ideal S8x128 .f32) × List (View.Piece (Elt Ideal) S32768x256 .f32)) : Prop :=
  (∀ p ∈ st.2, ∀ x, p.2 x = G (p.1.emb x)) ∧ (∀ y : S32768x256.Idx, (y 0).val < 512 * k → ∃ p ∈ st.2, y ∈ p.1.set)
    ∧ IsMax G (512 * k) 0 st.1.1 ∧ IsMax G (512 * k) 1 st.1.2

/-- The invariant of the score loop: the rows stored so far are scores and the maxima are theirs. -/
theorem t1_inv (init) (h0 : IsMax (MS (k0_pay83 v3 v4 v32 c64_i32_7 v34 v37 v39) (arg6.view.read (Elt Ideal) X6) (arg4.view.read (Elt Ideal) X4) (k0_pay84 v63) (k0_pay85 v66) (i 2).val) 0 0 init.1) (h1 : IsMax (MS (k0_pay83 v3 v4 v32 c64_i32_7 v34 v37 v39) (arg6.view.read (Elt Ideal) X6) (arg4.view.read (Elt Ideal) X4) (k0_pay84 v63) (k0_pay85 v66) (i 2).val) 0 1 init.2) (n : ℕ) (hn : n ≤ (k0_t1_loop i).trips) :
    T1Inv (MS (k0_pay83 v3 v4 v32 c64_i32_7 v34 v37 v39) (arg6.view.read (Elt Ideal) X6) (arg4.view.read (Elt Ideal) X4) (k0_pay84 v63) (k0_pay85 v66) (i 2).val) n (st_k0_t1 (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 init n) := by
  induction n with
  | zero => exact ⟨fun p hp => absurd hp List.not_mem_nil, fun y h => absurd h (by omega), h0, h1⟩
  | succ n ih =>
    obtain ⟨a, b, d, e⟩ := ih (by omega)
    have s := st_k0_t1_succ (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 init ⟨n, by omega⟩
    dsimp only at s
    rw [s]
    refine ⟨fun p hp => ?_, fun y hy => ?_, ?_⟩
    · rcases List.mem_append.mp hp with hp | hp
      · exact t1_pieces 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 ⟨n, by omega⟩ _ p hp
      · exact a p hp
    · by_cases g : (y 0).val < 512 * n
      · obtain ⟨p, hp, hy⟩ := b y g
        exact ⟨p, List.mem_append_right _ hp, hy⟩
      · obtain ⟨p, hp, hy⟩ := t1_cover 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 ⟨n, by omega⟩ (st_k0_t1 (F := Ideal) 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 init n).1 y
            (by dsimp only; omega) hy
        exact ⟨p, List.mem_append_left _ hp, hy⟩
    · exact t1_max 𝒱 c bd i arg3 harg3 arg4 harg4 arg5 harg5 arg6 harg6 arg7 harg7 arg8 harg8 arg9 harg9 arg10 harg10 arg11 harg11 arg2 v1 v3 v4 v32 c64_i32_7 v34 v37 v39 v63 v66 X4 X6 ⟨n, by omega⟩ _ d e

end Cert.KernelIdeal.Value

end
-- ==== Proof.Diag.lean ====
/- The 512 rows of the diagonal, masked by hand-made comparisons, and what all rows together leave: the output block as
   a function of the loop that sums, run over scores and maxima with the right meaning. -/
module

public import proofs.«01_k».proof.Proof.T1

@[expose] public section

set_option maxRecDepth 16384
set_option maxHeartbeats 2000000

noncomputable section

namespace Cert.KernelIdeal.Value

open Idealize.ShloMosaic Idealize.ShloMosaic.TcCoe Idealize.SL.Sem
open Cert.KernelIdeal Cert.KernelIdeal.Gen

/-- The first query of the tile, counted from the diagonal chunk, as a word. -/
theorem v86_eq (i : grid0.Coords) : Cert.KernelIdeal.Body.run.sl.v86 i = BitVec.ofNat 32 (128 * (i 2).val - 512 * (128 * (i 2).val / 512)) := by
  have h : ∀ n : Fin 256, Scalar.subi (Scalar.muli (BitVec.ofNat 32 n.val) 128#32) (Scalar.muli (Scalar.divsi (Scalar.muli (BitVec.ofNat 32 n.val) 128#32) 512#32) 512#32)
      = BitVec.ofNat 32 (128 * n.val - 512 * (128 * n.val / 512)) := by decide +kernel
  exact h ⟨(i 2).val, (i 2).isLt⟩

/-- The value loop runs once for each chunk up to the diagonal. -/
theorem t3_trips (i : grid0.Coords) : Scf.trips (k0_t3_loop i).lb (k0_t3_loop i).ub (k0_t3_loop i).st = 128 * (i 2).val / 512 + 1 := by
  have h : ∀ n : Fin 256, Scf.trips 0#32 (Scalar.addi 0#32 (Scalar.muli (Scalar.divsi (Scalar.subi (Scalar.addi (Scalar.divsi
      (Scalar.muli (BitVec.ofNat 32 n.val) 128#32) 512#32) 1#32) 0#32) 1#32) 1#32)) 1#32 = 128 * n.val / 512 + 1 := by decide +kernel
  exact h ⟨(i 2).val, (i 2).isLt⟩

/-- The remainder of the score loop, unrolled by one, is empty. -/
theorem t2_trips (i : grid0.Coords) : Scf.trips (k0_t2_loop i).lb (k0_t2_loop i).ub (k0_t2_loop i).st = 0 := Nat.le_zero.mp (k0_t2_abs i).2.1

/-- The remainder of the value loop, unrolled by one, is empty. -/
theorem t4_trips (i : grid0.Coords) : Scf.trips (k0_t4_loop i).lb (k0_t4_loop i).ub (k0_t4_loop i).st = 0 := Nat.le_zero.mp (k0_t4_abs i).2.1

section
variable (c : Dev nD) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)

/-- The empty remainder of the score loop leaves its state. -/
theorem st2_zero (arg2 : BitVec 32) (v1 : BitVec 32) (v3 : FVec Ideal S128x128 .fp8e4m3) (v4 : IVec S128x128 32) (v32 : FVec Ideal S128x128 .fp8e4m3) (c64_i32_7 : BitVec 32) (v34 : IVec S128x128 32) (v37 : IVec S128x128 32) (v39 : IVec S128x128 1) (v63 : Elt Ideal .f32) (v66 : Elt Ideal .f32) (v74 : BitVec 32) (X4 X6) (a : FVec Ideal S8x128 .f32 × FVec Ideal S8x128 .f32) :
    st_k0_t2 (F := Ideal) .none c none i arg3 harg3 arg4 harg4 arg5 harg5 arg6 harg6 arg7 harg7 arg8 harg8 arg9 harg9 arg10 harg10 arg11 harg11 arg2 v1 v3 v4 v32 c64_i32_7 v34 v37 v39 v63 v66 v74 X4 X6 a (Scf.trips (k0_t2_loop i).lb (k0_t2_loop i).ub (k0_t2_loop i).st) = (a, []) := by
  rw [t2_trips]; rfl

/-- The empty remainder of the value loop leaves its state. -/
theorem st4_zero (v1 v78 : BitVec 32) (v270 v431 : FVec Ideal S8x128 .f32) (v439 : FVec Ideal S64x128 .f32) (v441 v443 : IVec S64x128 32) (X7 X10 G11) (a : FVec Ideal S8x128 .f32 × FVec Ideal S8x128 .f32) :
    st_k0_t4 (F := Ideal) .none c none i arg3 harg3 arg4 harg4 arg5 harg5 arg6 harg6 arg7 harg7 arg8 harg8 arg9 harg9 arg10 harg10 arg11 harg11 v1 v78 v270 v431 v439 v441 v443 X7 X10 G11 a (Scf.trips (k0_t4_loop i).lb (k0_t4_loop i).ub (k0_t4_loop i).st) = (a, []) := by
  rw [t4_trips]; rfl

/-- What the loop that sums leaves: the per-residue sums of the weights and the pieces of the accumulator. -/
def st3 (v1 v78 : BitVec 32) (v270 v431 : FVec Ideal S8x128 .f32) (v439 : FVec Ideal S64x128 .f32) (v441 v443 : IVec S64x128 32) (X7 : BufTy.Contents (Elt Ideal) arg7.view.ty) (X10 : BufTy.Contents (Elt Ideal) arg10.view.ty) :=
  st_k0_t3 (F := Ideal) .none c none i arg3 harg3 arg4 harg4 arg5 harg5 arg6 harg6 arg7 harg7 arg8 harg8 arg9 harg9 arg10 harg10 arg11 harg11 v1 v78 v270 v431 v439 v441 v443 X7 X10 (arg11.view.writes (Elt Ideal) arg11.view.junk (Cert.KernelIdeal.Body.run.sl.G1_1 (F := Ideal)))
    (k0_pay150, k0_pay151) (Scf.trips (k0_t3_loop i).lb (k0_t3_loop i).ub (k0_t3_loop i).st)

/-- The output block as a function of what the summing loop leaves. -/
def core (s : (FVec Ideal S8x128 .f32 × FVec Ideal S8x128 .f32) × List (View.Piece (Elt Ideal) S128x256 .f32)) (f5 : BufTy.Contents (Elt Ideal) arg8.view.ty) : FVec Ideal S1x128x128 .bf16 :=
  k0_pay1 s.1.2
    (arg11.view.readCov (s.2 ++ Cert.KernelIdeal.Body.run.sl.G1_1 (F := Ideal)) (Rect.unit (s := S128x256) ![0, 0] S64x128.size inb_S128x256_S64x128_0_0).toLoadRect)
    (k0_pay162 s.1.1)
    (arg11.view.readCov (s.2 ++ Cert.KernelIdeal.Body.run.sl.G1_1 (F := Ideal)) (Rect.unit (s := S128x256) ![64, 128] S64x128.size inb_S128x256_S64x128_64_128).toLoadRect)
    (View.readAt (Elt Ideal) arg8.view (Rect.unit (s := S1x1x128) ![0, 0, 0] S1x1x128.size inb_S1x1x128_S1x1x128_0_0_0).toLoadRect f5)

/-- The output block is computed from the state of the value loop alone. -/
theorem core_st4 (v1 v78 : BitVec 32) (v270 v431 : FVec Ideal S8x128 .f32) (v439 : FVec Ideal S64x128 .f32) (v441 v443 : IVec S64x128 32) (X7 X10 G11) (s : (FVec Ideal S8x128 .f32 × FVec Ideal S8x128 .f32) × List (View.Piece (Elt Ideal) S128x256 .f32)) (f5) :
    k0_pay1 (st_k0_t4 (F := Ideal) .none c none i arg3 harg3 arg4 harg4 arg5 harg5 arg6 harg6 arg7 harg7 arg8 harg8 arg9 harg9 arg10 harg10 arg11 harg11 v1 v78 v270 v431 v439 v441 v443 X7 X10 G11 (s.1.1, s.1.2) (Scf.trips (k0_t4_loop i).lb (k0_t4_loop i).ub (k0_t4_loop i).st)).1.2
      (arg11.view.readCov ((st_k0_t4 (F := Ideal) .none c none i arg3 harg3 arg4 harg4 arg5 harg5 arg6 harg6 arg7 harg7 arg8 harg8 arg9 harg9 arg10 harg10 arg11 harg11 v1 v78 v270 v431 v439 v441 v443 X7 X10 G11 (s.1.1, s.1.2) (Scf.trips (k0_t4_loop i).lb (k0_t4_loop i).ub (k0_t4_loop i).st)).2 ++ (s.2 ++ Cert.KernelIdeal.Body.run.sl.G1_1 (F := Ideal))) (Rect.unit (s := S128x256) ![0, 0] S64x128.size inb_S128x256_S64x128_0_0).toLoadRect)
      (k0_pay162 (st_k0_t4 (F := Ideal) .none c none i arg3 harg3 arg4 harg4 arg5 harg5 arg6 harg6 arg7 harg7 arg8 harg8 arg9 harg9 arg10 harg10 arg11 harg11 v1 v78 v270 v431 v439 v441 v443 X7 X10 G11 (s.1.1, s.1.2) (Scf.trips (k0_t4_loop i).lb (k0_t4_loop i).ub (k0_t4_loop i).st)).1.1)
      (arg11.view.readCov ((st_k0_t4 (F := Ideal) .none c none i arg3 harg3 arg4 harg4 arg5 harg5 arg6 harg6 arg7 harg7 arg8 harg8 arg9 harg9 arg10 harg10 arg11 harg11 v1 v78 v270 v431 v439 v441 v443 X7 X10 G11 (s.1.1, s.1.2) (Scf.trips (k0_t4_loop i).lb (k0_t4_loop i).ub (k0_t4_loop i).st)).2 ++ (s.2 ++ Cert.KernelIdeal.Body.run.sl.G1_1 (F := Ideal))) (Rect.unit (s := S128x256) ![64, 128] S64x128.size inb_S128x256_S64x128_64_128).toLoadRect)
      (View.readAt (Elt Ideal) arg8.view (Rect.unit (s := S1x1x128) ![0, 0, 0] S1x1x128.size inb_S1x1x128_S1x1x128_0_0_0).toLoadRect f5)
    = core arg8 arg11 s f5 := by
  rw [st4_zero]; rfl

variable (f0 : BufTy.Contents (Elt Ideal) arg3.view.ty) (f1 : BufTy.Contents (Elt Ideal) arg4.view.ty) (f2 : BufTy.Contents (Elt Ideal) arg5.view.ty) (f3 : BufTy.Contents (Elt Ideal) arg6.view.ty) (f4 : BufTy.Contents (Elt Ideal) arg7.view.ty) (f5 : BufTy.Contents (Elt Ideal) arg8.view.ty) (g0 : BufTy.Contents (Elt Ideal) arg10.view.ty)

/-- The sixteen masked pieces of the diagonal rows, the last written first, before what was written before them. -/
def diagL (c : Dev nD) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole) (f0 : BufTy.Contents (Elt Ideal) arg3.view.ty) (f1 : BufTy.Contents (Elt Ideal) arg4.view.ty) (f2 : BufTy.Contents (Elt Ideal) arg5.view.ty) (f3 : BufTy.Contents (Elt Ideal) arg6.view.ty) (rest : List (View.Piece (Elt Ideal) S32768x256 .f32)) : List (View.Piece (Elt Ideal) S32768x256 .f32) :=
  ⟨Rect.unit (s := S32768x256) (k0_off17 i 448#32) S64x128.size (k0_off17_inb i 7), k0_pay146 (Cert.KernelIdeal.Body.run.sl.r_40 (F := Ideal) i arg3 arg4 arg5 arg6 f0 f1 f2 f3) (k0_pay143 Cert.KernelIdeal.Body.run.sl.v83) (Cert.KernelIdeal.Body.run.sl.r_41 i)⟩ :: ⟨Rect.unit (s := S32768x256) (k0_off17 i 384#32) S64x128.size (k0_off17_inb i 6), k0_pay140 (Cert.KernelIdeal.Body.run.sl.r_6 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_37 (F := Ideal) i arg4 f1)⟩ :: ⟨Rect.unit (s := S32768x256) (k0_off17 i 320#32) S64x128.size (k0_off17_inb i 5), k0_pay138 (Cert.KernelIdeal.Body.run.sl.r_36 (F := Ideal) i arg3 arg4 arg5 arg6 f0 f1 f2 f3)⟩ :: ⟨Rect.unit (s := S32768x256) (k0_off17 i 256#32) S64x128.size (k0_off17_inb i 4), k0_pay135 (Cert.KernelIdeal.Body.run.sl.r_6 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_33 (F := Ideal) i arg4 f1)⟩ :: ⟨Rect.unit (s := S32768x256) (k0_off17 i 192#32) S64x128.size (k0_off17_inb i 3), k0_pay132 (Cert.KernelIdeal.Body.run.sl.r_6 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_31 (F := Ideal) i arg4 f1)⟩ :: ⟨Rect.unit (s := S32768x256) (k0_off17 i 128#32) S64x128.size (k0_off17_inb i 2), k0_pay130 (Cert.KernelIdeal.Body.run.sl.r_6 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_30 (F := Ideal) i arg4 f1)⟩ :: ⟨Rect.unit (s := S32768x256) (k0_off17 i 64#32) S64x128.size (k0_off17_inb i 1), k0_pay127 (Cert.KernelIdeal.Body.run.sl.r_6 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_28 (F := Ideal) i arg4 f1)⟩ :: ⟨Rect.unit (s := S32768x256) (k0_off17 i 0#32) S64x128.size (k0_off17_inb i 0), k0_pay125 Cert.KernelIdeal.Body.run.sl.v84 (Cert.KernelIdeal.Body.run.sl.v86 i) (Cert.KernelIdeal.Body.run.sl.r_27 (F := Ideal) i arg3 arg4 arg5 arg6 f0 f1 f2 f3) (k0_pay123 Cert.KernelIdeal.Body.run.sl.v83)⟩ :: ⟨Rect.unit (s := S32768x256) (k0_off15 i 448#32) S64x128.size (k0_off15_inb i 7), k0_pay120 (Cert.KernelIdeal.Body.run.sl.r_5 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_24 (F := Ideal) i arg4 f1)⟩ :: ⟨Rect.unit (s := S32768x256) (k0_off15 i 384#32) S64x128.size (k0_off15_inb i 6), k0_pay118 (Cert.KernelIdeal.Body.run.sl.r_23 (F := Ideal) i arg3 arg4 arg5 arg6 f0 f1 f2 f3)⟩ :: ⟨Rect.unit (s := S32768x256) (k0_off15 i 320#32) S64x128.size (k0_off15_inb i 5), k0_pay115 (Cert.KernelIdeal.Body.run.sl.r_5 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_20 (F := Ideal) i arg4 f1)⟩ :: ⟨Rect.unit (s := S32768x256) (k0_off15 i 256#32) S64x128.size (k0_off15_inb i 4), k0_pay112 (Cert.KernelIdeal.Body.run.sl.r_5 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_17 (F := Ideal) i arg4 f1)⟩ :: ⟨Rect.unit (s := S32768x256) (k0_off15 i 192#32) S64x128.size (k0_off15_inb i 3), k0_pay109 (Cert.KernelIdeal.Body.run.sl.r_5 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_16 (F := Ideal) i arg4 f1)⟩ :: ⟨Rect.unit (s := S32768x256) (k0_off15 i 128#32) S64x128.size (k0_off15_inb i 2), k0_pay106 (Cert.KernelIdeal.Body.run.sl.r_5 (F := Ideal) i arg3 f0) (Cert.KernelIdeal.Body.run.sl.r_11 (F := Ideal) i arg5 arg6 f2 f3) Cert.KernelIdeal.Body.run.sl.v83 Cert.KernelIdeal.Body.run.sl.v84 (Cert.KernelIdeal.Body.run.sl.v86 i) (Cert.KernelIdeal.Body.run.sl.r_14 (F := Ideal) i arg4 f1)⟩ :: ⟨Rect.unit (s := S32768x256) (k0_off15 i 64#32) S64x128.size (k0_off15_inb i 1), k0_pay104 Cert.KernelIdeal.Body.run.sl.v83 Cert.KernelIdeal.Body.run.sl.v84 (Cert.KernelIdeal.Body.run.sl.v86 i) (Cert.KernelIdeal.Body.run.sl.r_13 (F := Ideal) i arg3 arg4 arg5 arg6 f0 f1 f2 f3) 64#32⟩ :: ⟨Rect.unit (s := S32768x256) (k0_off15 i 0#32) S64x128.size (k0_off15_inb i 0), k0_pay100 (BitVec.ofNat 32 ↑(i 2)) (Cert.KernelIdeal.Body.run.sl.r_4 (F := Ideal) arg5 f2) (Cert.KernelIdeal.Body.run.sl.r_5 (F := Ideal) i arg3 f0) (Cert.KernelIdeal.Body.run.sl.v77 i) (View.readAt (Elt Ideal) arg6.view (Rect.unit (s := S1x32768x128) (k0_off13 i) S1x512x128.size (k0_off13_inb i)).toLoadRect f3) (Cert.KernelIdeal.Body.run.sl.r_9 (F := Ideal) i arg4 f1)⟩  :: rest

/-- The score loop keeps its invariant at the blocks of one grid point. -/
theorem t1i : T1Inv (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (Scf.trips (k0_t1_loop i).lb (k0_t1_loop i).ub (k0_t1_loop i).st) (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)) :=
  t1_inv .none c none i arg3 harg3 arg4 harg4 arg5 harg5 arg6 harg6 arg7 harg7 arg8 harg8 arg9 harg9 arg10 harg10 arg11 harg11 (BitVec.ofNat 32 (i 2).val) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) 64#32 k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (IsMax.zero _ 0) (IsMax.zero _ 1) (Scf.trips (k0_t1_loop i).lb (k0_t1_loop i).ub (k0_t1_loop i).st) le_rfl

/-- The output block of one run, as a function of the state after the value loop. -/
theorem run_core : (Cert.KernelIdeal.Body.run (F := Ideal) c i arg3 harg3 arg4 harg4 arg5 harg5 arg6 harg6 arg7 harg7 arg8 harg8 arg9 harg9 arg10 harg10 arg11 harg11 f0 f1 f2 f3 f4 f5 g0).1
      = core arg8 arg11 (st3 c i arg3 harg3 arg4 harg4 arg5 harg5 arg6 harg6 arg7 harg7 arg8 harg8 arg9 harg9 arg10 harg10 arg11 harg11 (Cert.KernelIdeal.Body.run.sl.v1 i) (Cert.KernelIdeal.Body.run.sl.v77 i) (Cert.KernelIdeal.Body.run.sl.r_26 (F := Ideal) c i arg3 harg3 arg4 harg4 arg5 harg5 arg6 harg6 arg7 harg7 arg8 harg8 arg9 harg9 arg10 harg10 arg11 harg11 f0 f1 f2 f3) (Cert.KernelIdeal.Body.run.sl.r_39 (F := Ideal) c i arg3 harg3 arg4 harg4 arg5 harg5 arg6 harg6 arg7 harg7 arg8 harg8 arg9 harg9 arg10 harg10 arg11 harg11 f0 f1 f2 f3) (Cert.KernelIdeal.Body.run.sl.r_40 (F := Ideal) i arg3 arg4 arg5 arg6 f0 f1 f2 f3) (k0_pay143 Cert.KernelIdeal.Body.run.sl.v83) (Cert.KernelIdeal.Body.run.sl.r_41 i) f4 (arg10.view.writes (Elt Ideal) g0 (diagL c i arg3 harg3 arg4 harg4 arg5 harg5 arg6 harg6 arg7 harg7 arg8 harg8 arg9 harg9 arg10 harg10 arg11 harg11 f0 f1 f2 f3 ((st_k0_t2 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) (Cert.KernelIdeal.Body.run.sl.v74 i) f1 f3 ((st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.1, (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.2) (Scf.trips (k0_t2_loop i).lb (k0_t2_loop i).ub (k0_t2_loop i).st)).2 ++ (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).2)))) f5 := by
  unfold Cert.KernelIdeal.Body.run; dsimp only
  refine Eq.trans ?_ (core_st4 c i arg3 harg3 arg4 harg4 arg5 harg5 arg6 harg6 arg7 harg7 arg8 harg8 arg9 harg9 arg10 harg10 arg11 harg11 (Cert.KernelIdeal.Body.run.sl.v1 i) (Cert.KernelIdeal.Body.run.sl.v77 i) (Cert.KernelIdeal.Body.run.sl.r_26 (F := Ideal) c i arg3 harg3 arg4 harg4 arg5 harg5 arg6 harg6 arg7 harg7 arg8 harg8 arg9 harg9 arg10 harg10 arg11 harg11 f0 f1 f2 f3) (Cert.KernelIdeal.Body.run.sl.r_39 (F := Ideal) c i arg3 harg3 arg4 harg4 arg5 harg5 arg6 harg6 arg7 harg7 arg8 harg8 arg9 harg9 arg10 harg10 arg11 harg11 f0 f1 f2 f3) (Cert.KernelIdeal.Body.run.sl.r_40 (F := Ideal) i arg3 arg4 arg5 arg6 f0 f1 f2 f3) (k0_pay143 Cert.KernelIdeal.Body.run.sl.v83) (Cert.KernelIdeal.Body.run.sl.r_41 i) f4 (arg10.view.writes (Elt Ideal) g0 (diagL c i arg3 harg3 arg4 harg4 arg5 harg5 arg6 harg6 arg7 harg7 arg8 harg8 arg9 harg9 arg10 harg10 arg11 harg11 f0 f1 f2 f3 ((st_k0_t2 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) (Cert.KernelIdeal.Body.run.sl.v74 i) f1 f3 ((st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.1, (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.2) (Scf.trips (k0_t2_loop i).lb (k0_t2_loop i).ub (k0_t2_loop i).st)).2 ++ (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).2)))
    (arg11.view.writes (Elt Ideal) arg11.view.junk ((st3 c i arg3 harg3 arg4 harg4 arg5 harg5 arg6 harg6 arg7 harg7 arg8 harg8 arg9 harg9 arg10 harg10 arg11 harg11 (Cert.KernelIdeal.Body.run.sl.v1 i) (Cert.KernelIdeal.Body.run.sl.v77 i) (Cert.KernelIdeal.Body.run.sl.r_26 (F := Ideal) c i arg3 harg3 arg4 harg4 arg5 harg5 arg6 harg6 arg7 harg7 arg8 harg8 arg9 harg9 arg10 harg10 arg11 harg11 f0 f1 f2 f3) (Cert.KernelIdeal.Body.run.sl.r_39 (F := Ideal) c i arg3 harg3 arg4 harg4 arg5 harg5 arg6 harg6 arg7 harg7 arg8 harg8 arg9 harg9 arg10 harg10 arg11 harg11 f0 f1 f2 f3) (Cert.KernelIdeal.Body.run.sl.r_40 (F := Ideal) i arg3 arg4 arg5 arg6 f0 f1 f2 f3) (k0_pay143 Cert.KernelIdeal.Body.run.sl.v83) (Cert.KernelIdeal.Body.run.sl.r_41 i) f4 (arg10.view.writes (Elt Ideal) g0 (diagL c i arg3 harg3 arg4 harg4 arg5 harg5 arg6 harg6 arg7 harg7 arg8 harg8 arg9 harg9 arg10 harg10 arg11 harg11 f0 f1 f2 f3 ((st_k0_t2 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) (Cert.KernelIdeal.Body.run.sl.v74 i) f1 f3 ((st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.1, (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.2) (Scf.trips (k0_t2_loop i).lb (k0_t2_loop i).ub (k0_t2_loop i).st)).2 ++ (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).2)))).2 ++ Cert.KernelIdeal.Body.run.sl.G1_1 (F := Ideal))) (st3 c i arg3 harg3 arg4 harg4 arg5 harg5 arg6 harg6 arg7 harg7 arg8 harg8 arg9 harg9 arg10 harg10 arg11 harg11 (Cert.KernelIdeal.Body.run.sl.v1 i) (Cert.KernelIdeal.Body.run.sl.v77 i) (Cert.KernelIdeal.Body.run.sl.r_26 (F := Ideal) c i arg3 harg3 arg4 harg4 arg5 harg5 arg6 harg6 arg7 harg7 arg8 harg8 arg9 harg9 arg10 harg10 arg11 harg11 f0 f1 f2 f3) (Cert.KernelIdeal.Body.run.sl.r_39 (F := Ideal) c i arg3 harg3 arg4 harg4 arg5 harg5 arg6 harg6 arg7 harg7 arg8 harg8 arg9 harg9 arg10 harg10 arg11 harg11 f0 f1 f2 f3) (Cert.KernelIdeal.Body.run.sl.r_40 (F := Ideal) i arg3 arg4 arg5 arg6 f0 f1 f2 f3) (k0_pay143 Cert.KernelIdeal.Body.run.sl.v83) (Cert.KernelIdeal.Body.run.sl.r_41 i) f4 (arg10.view.writes (Elt Ideal) g0 (diagL c i arg3 harg3 arg4 harg4 arg5 harg5 arg6 harg6 arg7 harg7 arg8 harg8 arg9 harg9 arg10 harg10 arg11 harg11 f0 f1 f2 f3 ((st_k0_t2 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) (Cert.KernelIdeal.Body.run.sl.v74 i) f1 f3 ((st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.1, (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).1.2) (Scf.trips (k0_t2_loop i).lb (k0_t2_loop i).ub (k0_t2_loop i).st)).2 ++ (st_k0_t1 .none c none i arg3 harg3 arg4 harg4 arg5 harg5 arg6 harg6 arg7 harg7 arg8 harg8 arg9 harg9 arg10 harg10 arg11 harg11 (BitVec.ofNat 32 ↑(i 2)) (Cert.KernelIdeal.Body.run.sl.v1 i) (Cert.KernelIdeal.Body.run.sl.r (F := Ideal) arg5 f2) Cert.KernelIdeal.Body.run.sl.v4 (Cert.KernelIdeal.Body.run.sl.r_1 (F := Ideal) arg5 f2) (64#32) k0_pay80 k0_pay81 k0_pay82 (Cert.KernelIdeal.Body.run.sl.r_2 (F := Ideal) i arg3 f0) (Cert.KernelIdeal.Body.run.sl.r_3 (F := Ideal) i arg3 f0) f1 f3 (k0_pay86, k0_pay87) (Scf.trips (k0_t1_loop i).lb (k0_t1_loop i).ub (k0_t1_loop i).st)).2)))) f5)
  unfold Cert.KernelIdeal.Body.run.sl.r_42 Cert.KernelIdeal.Body.run.sl.v477 Cert.KernelIdeal.Body.run.sl.r_43 Cert.KernelIdeal.Body.run.sl.v482 st3 diagL
  rfl

/-- Every piece stored by the diagonal chunk holds the masked scores, if the earlier ones do. -/
theorem diag_pieces (L : List (View.Piece (Elt Ideal) S32768x256 .f32)) (hL : ∀ p ∈ L, ∀ x, p.2 x = (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (p.1.emb x)) :
    ∀ p ∈ diagL c i arg3 harg3 arg4 harg4 arg5 harg5 arg6 harg6 arg7 harg7 arg8 harg8 arg9 harg9 arg10 harg10 arg11 harg11 f0 f1 f2 f3 L, ∀ x, p.2 x = (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (p.1.emb x) := by
  have hi2 : (i 2).val < 256 := (i 2).isLt
  unfold diagL
  simp only [List.forall_mem_cons]
  refine ⟨?_, ?_, ?_, ?_, ?_, ?_, ?_, ?_, ?_, ?_, ?_, ?_, ?_, ?_, ?_, ?_, hL⟩
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 7 1 (by omega) (by omega) (by simp) _ (k0_off13_eq i) _ _ ((k0_off16_eq i 7).trans (by simp; omega)) _ rfl) (by omega) (by omega) (by omega) _ _ _ (v86_eq i) _ rfl).cast _).emb _ ((k0_off17_eq i 7).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 6 1 (by omega) (by omega) (by simp) _ (k0_off13_eq i) _ _ ((k0_off16_eq i 6).trans (by simp; omega)) _ rfl) (by omega) (by omega) (by omega) _ _ _ (v86_eq i) _ rfl).cast _).emb _ ((k0_off17_eq i 6).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 5 1 (by omega) (by omega) (by simp) _ (k0_off13_eq i) _ _ ((k0_off16_eq i 5).trans (by simp; omega)) _ rfl) (by omega) (by omega) (by omega) _ _ _ (v86_eq i) _ rfl).cast _).emb _ ((k0_off17_eq i 5).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 4 1 (by omega) (by omega) (by simp) _ (k0_off13_eq i) _ _ ((k0_off16_eq i 4).trans (by simp; omega)) _ rfl) (by omega) (by omega) (by omega) _ _ _ (v86_eq i) _ rfl).cast _).emb _ ((k0_off17_eq i 4).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 3 1 (by omega) (by omega) (by simp) _ (k0_off13_eq i) _ _ ((k0_off16_eq i 3).trans (by simp; omega)) _ rfl) (by omega) (by omega) (by omega) _ _ _ (v86_eq i) _ rfl).cast _).emb _ ((k0_off17_eq i 3).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 2 1 (by omega) (by omega) (by simp) _ (k0_off13_eq i) _ _ ((k0_off16_eq i 2).trans (by simp; omega)) _ rfl) (by omega) (by omega) (by omega) _ _ _ (v86_eq i) _ rfl).cast _).emb _ ((k0_off17_eq i 2).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 1 1 (by omega) (by omega) (by simp) _ (k0_off13_eq i) _ _ ((k0_off16_eq i 1).trans (by simp; omega)) _ rfl) (by omega) (by omega) (by omega) _ _ _ (v86_eq i) _ rfl).cast _).emb _ ((k0_off17_eq i 1).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 0 1 (by omega) (by omega) (by simp) _ (k0_off13_eq i) _ _ ((k0_off16_eq i 0).trans (by simp; omega)) _ rfl) (by omega) (by omega) (by omega) _ _ _ (v86_eq i) _ rfl).cast _).emb _ ((k0_off17_eq i 0).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 7 0 (by omega) (by omega) (by simp) _ (k0_off13_eq i) _ _ ((k0_off14_eq i 7).trans (by simp; omega)) _ rfl) (by omega) (by omega) (by omega) _ _ _ (v86_eq i) _ rfl).cast _).emb _ ((k0_off15_eq i 7).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 6 0 (by omega) (by omega) (by simp) _ (k0_off13_eq i) _ _ ((k0_off14_eq i 6).trans (by simp; omega)) _ rfl) (by omega) (by omega) (by omega) _ _ _ (v86_eq i) _ rfl).cast _).emb _ ((k0_off15_eq i 6).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 5 0 (by omega) (by omega) (by simp) _ (k0_off13_eq i) _ _ ((k0_off14_eq i 5).trans (by simp; omega)) _ rfl) (by omega) (by omega) (by omega) _ _ _ (v86_eq i) _ rfl).cast _).emb _ ((k0_off15_eq i 5).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 4 0 (by omega) (by omega) (by simp) _ (k0_off13_eq i) _ _ ((k0_off14_eq i 4).trans (by simp; omega)) _ rfl) (by omega) (by omega) (by omega) _ _ _ (v86_eq i) _ rfl).cast _).emb _ ((k0_off15_eq i 4).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 3 0 (by omega) (by omega) (by simp) _ (k0_off13_eq i) _ _ ((k0_off14_eq i 3).trans (by simp; omega)) _ rfl) (by omega) (by omega) (by omega) _ _ _ (v86_eq i) _ rfl).cast _).emb _ ((k0_off15_eq i 3).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 2 0 (by omega) (by omega) (by simp) _ (k0_off13_eq i) _ _ ((k0_off14_eq i 2).trans (by simp; omega)) _ rfl) (by omega) (by omega) (by omega) _ _ _ (v86_eq i) _ rfl).cast _).emb _ ((k0_off15_eq i 2).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 1 0 (by omega) (by omega) (by simp) _ (k0_off13_eq i) _ _ ((k0_off14_eq i 1).trans (by simp; omega)) _ rfl) (by omega) (by omega) (by omega) _ _ _ (v86_eq i) _ rfl).cast _).emb _ ((k0_off15_eq i 1).trans (by simp))
  · exact ((piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 0 0 (by omega) (by omega) (by simp) _ (k0_off13_eq i) _ _ ((k0_off14_eq i 0).trans (by simp; omega)) _ rfl) (by omega) (by omega) (by omega) _ _ _ (v86_eq i) _ rfl).cast _).emb _ ((k0_off15_eq i 0).trans (by simp))

/-- The pieces stored up to the diagonal chunk cover all its rows, if the earlier ones cover the rows before it. -/
theorem diag_cover (L : List (View.Piece (Elt Ideal) S32768x256 .f32)) (hL : ∀ y : S32768x256.Idx, (y 0).val < 512 * (128 * (i 2).val / 512) → ∃ p ∈ L, y ∈ p.1.set)
    (y : S32768x256.Idx) (hy : (y 0).val < 512 * ((128 * (i 2).val / 512) + 1)) : ∃ p ∈ diagL c i arg3 harg3 arg4 harg4 arg5 harg5 arg6 harg6 arg7 harg7 arg8 harg8 arg9 harg9 arg10 harg10 arg11 harg11 f0 f1 f2 f3 L, y ∈ p.1.set := by
    unfold diagL
    by_cases g : (y 0).val < 512 * (128 * (i 2).val / 512)
    · obtain ⟨p, hp, hy⟩ := hL y g
      exact ⟨p, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ hp)))))))))))))))), hy⟩
    have hy1 : (y 1).val < 256 := (y 1).isLt
    by_cases g : 128 ≤ (y 1).val
    · by_cases g7 : 512 * (128 * (i 2).val / 512) + 448 ≤ (y 0).val
      · exact ⟨_, (List.Mem.head _), by exact mem_piece (R := 512 * (128 * (i 2).val / 512) + 448) (C := 128) (k0_off17_inb i 7) ((k0_off17_eq i 7).trans (by simp)) y (by omega) (by omega) (by omega) (by omega)⟩
      by_cases g6 : 512 * (128 * (i 2).val / 512) + 384 ≤ (y 0).val
      · exact ⟨_, (List.Mem.tail _ (List.Mem.head _)), by exact mem_piece (R := 512 * (128 * (i 2).val / 512) + 384) (C := 128) (k0_off17_inb i 6) ((k0_off17_eq i 6).trans (by simp)) y (by omega) (by omega) (by omega) (by omega)⟩
      by_cases g5 : 512 * (128 * (i 2).val / 512) + 320 ≤ (y 0).val
      · exact ⟨_, (List.Mem.tail _ (List.Mem.tail _ (List.Mem.head _))), by exact mem_piece (R := 512 * (128 * (i 2).val / 512) + 320) (C := 128) (k0_off17_inb i 5) ((k0_off17_eq i 5).trans (by simp)) y (by omega) (by omega) (by omega) (by omega)⟩
      by_cases g4 : 512 * (128 * (i 2).val / 512) + 256 ≤ (y 0).val
      · exact ⟨_, (List.Mem.tail _ (List.Mem.tail _ (List.Mem.tail _ (List.Mem.head _)))), by exact mem_piece (R := 512 * (128 * (i 2).val / 512) + 256) (C := 128) (k0_off17_inb i 4) ((k0_off17_eq i 4).trans (by simp)) y (by omega) (by omega) (by omega) (by omega)⟩
      by_cases g3 : 512 * (128 * (i 2).val / 512) + 192 ≤ (y 0).val
      · exact ⟨_, (List.Mem.tail _ (List.Mem.tail _ (List.Mem.tail _ (List.Mem.tail _ (List.Mem.head _))))), by exact mem_piece (R := 512 * (128 * (i 2).val / 512) + 192) (C := 128) (k0_off17_inb i 3) ((k0_off17_eq i 3).trans (by simp)) y (by omega) (by omega) (by omega) (by omega)⟩
      by_cases g2 : 512 * (128 * (i 2).val / 512) + 128 ≤ (y 0).val
      · exact ⟨_, (List.Mem.tail _ (List.Mem.tail _ (List.Mem.tail _ (List.Mem.tail _ (List.Mem.tail _ (List.Mem.head _)))))), by exact mem_piece (R := 512 * (128 * (i 2).val / 512) + 128) (C := 128) (k0_off17_inb i 2) ((k0_off17_eq i 2).trans (by simp)) y (by omega) (by omega) (by omega) (by omega)⟩
      by_cases g1 : 512 * (128 * (i 2).val / 512) + 64 ≤ (y 0).val
      · exact ⟨_, (List.Mem.tail _ (List.Mem.tail _ (List.Mem.tail _ (List.Mem.tail _ (List.Mem.tail _ (List.Mem.tail _ (List.Mem.head _))))))), by exact mem_piece (R := 512 * (128 * (i 2).val / 512) + 64) (C := 128) (k0_off17_inb i 1) ((k0_off17_eq i 1).trans (by simp)) y (by omega) (by omega) (by omega) (by omega)⟩
      exact ⟨_, (List.Mem.tail _ (List.Mem.tail _ (List.Mem.tail _ (List.Mem.tail _ (List.Mem.tail _ (List.Mem.tail _ (List.Mem.tail _ (List.Mem.head _)))))))), by exact mem_piece (R := 512 * (128 * (i 2).val / 512) + 0) (C := 128) (k0_off17_inb i 0) ((k0_off17_eq i 0).trans (by simp)) y (by omega) (by omega) (by omega) (by omega)⟩
    · by_cases g7 : 512 * (128 * (i 2).val / 512) + 448 ≤ (y 0).val
      · exact ⟨_, (List.Mem.tail _ (List.Mem.tail _ (List.Mem.tail _ (List.Mem.tail _ (List.Mem.tail _ (List.Mem.tail _ (List.Mem.tail _ (List.Mem.tail _ (List.Mem.head _))))))))), by exact mem_piece (R := 512 * (128 * (i 2).val / 512) + 448) (C := 0) (k0_off15_inb i 7) ((k0_off15_eq i 7).trans (by simp)) y (by omega) (by omega) (by omega) (by omega)⟩
      by_cases g6 : 512 * (128 * (i 2).val / 512) + 384 ≤ (y 0).val
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), by exact mem_piece (R := 512 * (128 * (i 2).val / 512) + 384) (C := 0) (k0_off15_inb i 6) ((k0_off15_eq i 6).trans (by simp)) y (by omega) (by omega) (by omega) (by omega)⟩
      by_cases g5 : 512 * (128 * (i 2).val / 512) + 320 ≤ (y 0).val
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), by exact mem_piece (R := 512 * (128 * (i 2).val / 512) + 320) (C := 0) (k0_off15_inb i 5) ((k0_off15_eq i 5).trans (by simp)) y (by omega) (by omega) (by omega) (by omega)⟩
      by_cases g4 : 512 * (128 * (i 2).val / 512) + 256 ≤ (y 0).val
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), by exact mem_piece (R := 512 * (128 * (i 2).val / 512) + 256) (C := 0) (k0_off15_inb i 4) ((k0_off15_eq i 4).trans (by simp)) y (by omega) (by omega) (by omega) (by omega)⟩
      by_cases g3 : 512 * (128 * (i 2).val / 512) + 192 ≤ (y 0).val
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), by exact mem_piece (R := 512 * (128 * (i 2).val / 512) + 192) (C := 0) (k0_off15_inb i 3) ((k0_off15_eq i 3).trans (by simp)) y (by omega) (by omega) (by omega) (by omega)⟩
      by_cases g2 : 512 * (128 * (i 2).val / 512) + 128 ≤ (y 0).val
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), by exact mem_piece (R := 512 * (128 * (i 2).val / 512) + 128) (C := 0) (k0_off15_inb i 2) ((k0_off15_eq i 2).trans (by simp)) y (by omega) (by omega) (by omega) (by omega)⟩
      by_cases g1 : 512 * (128 * (i 2).val / 512) + 64 ≤ (y 0).val
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), by exact mem_piece (R := 512 * (128 * (i 2).val / 512) + 64) (C := 0) (k0_off15_inb i 1) ((k0_off15_eq i 1).trans (by simp)) y (by omega) (by omega) (by omega) (by omega)⟩
      exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), by exact mem_piece (R := 512 * (128 * (i 2).val / 512) + 0) (C := 0) (k0_off15_inb i 0) ((k0_off15_eq i 0).trans (by simp)) y (by omega) (by omega) (by omega) (by omega)⟩

/-- The running maximum of the first head, as the score loop leaves it. -/
theorem r7_max : IsMax (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * (128 * (i 2).val / 512)) 0 (Cert.KernelIdeal.Body.run.sl.r_7 (F := Ideal) c i arg3 harg3 arg4 harg4 arg5 harg5 arg6 harg6 arg7 harg7 arg8 harg8 arg9 harg9 arg10 harg10 arg11 harg11 f0 f1 f2 f3) := by
  have h := (t1i c i arg3 harg3 arg4 harg4 arg5 harg5 arg6 harg6 arg7 harg7 arg8 harg8 arg9 harg9 arg10 harg10 arg11 harg11 f0 f1 f2 f3).2.2.1
  unfold Cert.KernelIdeal.Body.run.sl.r_7
  rw [st2_zero]
  exact (show 512 * Scf.trips (k0_t1_loop i).lb (k0_t1_loop i).ub (k0_t1_loop i).st = 512 * (128 * (i 2).val / 512) from congrArg (512 * ·) (t1_trips i)) ▸ h

/-- The running maximum of the second head, as the score loop leaves it. -/
theorem r8_max : IsMax (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * (128 * (i 2).val / 512)) 1 (Cert.KernelIdeal.Body.run.sl.r_8 (F := Ideal) c i arg3 harg3 arg4 harg4 arg5 harg5 arg6 harg6 arg7 harg7 arg8 harg8 arg9 harg9 arg10 harg10 arg11 harg11 f0 f1 f2 f3) := by
  have h := (t1i c i arg3 harg3 arg4 harg4 arg5 harg5 arg6 harg6 arg7 harg7 arg8 harg8 arg9 harg9 arg10 harg10 arg11 harg11 f0 f1 f2 f3).2.2.2
  unfold Cert.KernelIdeal.Body.run.sl.r_8
  rw [st2_zero]
  exact (show 512 * Scf.trips (k0_t1_loop i).lb (k0_t1_loop i).ub (k0_t1_loop i).st = 512 * (128 * (i 2).val / 512) from congrArg (512 * ·) (t1_trips i)) ▸ h

/-- The maximum of the first head, with the diagonal chunk. -/
theorem r26_max : IsMax (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * ((128 * (i 2).val / 512) + 1)) 0 (Cert.KernelIdeal.Body.run.sl.r_26 (F := Ideal) c i arg3 harg3 arg4 harg4 arg5 harg5 arg6 harg6 arg7 harg7 arg8 harg8 arg9 harg9 arg10 harg10 arg11 harg11 f0 f1 f2 f3) := by
  have hi2 : (i 2).val < 256 := (i 2).isLt
  have hA0 := r7_max c i arg3 harg3 arg4 harg4 arg5 harg5 arg6 harg6 arg7 harg7 arg8 harg8 arg9 harg9 arg10 harg10 arg11 harg11 f0 f1 f2 f3
  have e : 512 * ((128 * (i 2).val / 512) + 1) = 512 * (128 * (i 2).val / 512) + 448 + 64 := by omega
  rw [e]
  exact ((((((((hA0.step (T := 512 * (128 * (i 2).val / 512) + 0) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 0 0 (by omega) (by omega) (by simp) _ (k0_off13_eq i) _ _ ((k0_off14_eq i 0).trans (by simp; omega)) _ rfl) (by omega) (by omega) (by omega) _ _ _ (v86_eq i) _ rfl) (by omega) _ _ _ _).step (T := 512 * (128 * (i 2).val / 512) + 64) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 1 0 (by omega) (by omega) (by simp) _ (k0_off13_eq i) _ _ ((k0_off14_eq i 1).trans (by simp; omega)) _ rfl) (by omega) (by omega) (by omega) _ _ _ (v86_eq i) _ rfl) (by omega) _ _ _ _).step (T := 512 * (128 * (i 2).val / 512) + 128) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 2 0 (by omega) (by omega) (by simp) _ (k0_off13_eq i) _ _ ((k0_off14_eq i 2).trans (by simp; omega)) _ rfl) (by omega) (by omega) (by omega) _ _ _ (v86_eq i) _ rfl) (by omega) _ _ _ _).step (T := 512 * (128 * (i 2).val / 512) + 192) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 3 0 (by omega) (by omega) (by simp) _ (k0_off13_eq i) _ _ ((k0_off14_eq i 3).trans (by simp; omega)) _ rfl) (by omega) (by omega) (by omega) _ _ _ (v86_eq i) _ rfl) (by omega) _ _ _ _).step (T := 512 * (128 * (i 2).val / 512) + 256) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 4 0 (by omega) (by omega) (by simp) _ (k0_off13_eq i) _ _ ((k0_off14_eq i 4).trans (by simp; omega)) _ rfl) (by omega) (by omega) (by omega) _ _ _ (v86_eq i) _ rfl) (by omega) _ _ _ _).step (T := 512 * (128 * (i 2).val / 512) + 320) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 5 0 (by omega) (by omega) (by simp) _ (k0_off13_eq i) _ _ ((k0_off14_eq i 5).trans (by simp; omega)) _ rfl) (by omega) (by omega) (by omega) _ _ _ (v86_eq i) _ rfl) (by omega) _ _ _ _).step (T := 512 * (128 * (i 2).val / 512) + 384) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 6 0 (by omega) (by omega) (by simp) _ (k0_off13_eq i) _ _ ((k0_off14_eq i 6).trans (by simp; omega)) _ rfl) (by omega) (by omega) (by omega) _ _ _ (v86_eq i) _ rfl) (by omega) _ _ _ _).step (T := 512 * (128 * (i 2).val / 512) + 448) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_5 (F := Ideal) i arg3 f0) (Cert.KernelIdeal.Body.run.sl.r_5 (F := Ideal) i arg3 f0) (Cert.KernelIdeal.Body.run.sl.r_6 (F := Ideal) i arg3 f0) (512 * (128 * (i 2).val / 512)) 7 0 (by omega) (by omega) (by simp) _ (k0_off13_eq i) _ _ ((k0_off14_eq i 7).trans (by simp; omega)) _ rfl) (by omega) (by omega) (by omega) _ _ _ (v86_eq i) _ rfl) (by omega) _ _ _ _)

/-- The maximum of the second head, with the diagonal chunk. -/
theorem r39_max : ∃ a, IsMax (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * ((128 * (i 2).val / 512) + 1)) 1 a ∧ k0_pay148 (Cert.KernelIdeal.Body.run.sl.r_39 (F := Ideal) c i arg3 harg3 arg4 harg4 arg5 harg5 arg6 harg6 arg7 harg7 arg8 harg8 arg9 harg9 arg10 harg10 arg11 harg11 f0 f1 f2 f3) (Cert.KernelIdeal.Body.run.sl.r_40 (F := Ideal) i arg3 arg4 arg5 arg6 f0 f1 f2 f3) (k0_pay143 Cert.KernelIdeal.Body.run.sl.v83) (Cert.KernelIdeal.Body.run.sl.r_41 i) = k0_pay147 a := by
  have hi2 : (i 2).val < 256 := (i 2).isLt
  have hA1 := r8_max c i arg3 harg3 arg4 harg4 arg5 harg5 arg6 harg6 arg7 harg7 arg8 harg8 arg9 harg9 arg10 harg10 arg11 harg11 f0 f1 f2 f3
  have e : 512 * ((128 * (i 2).val / 512) + 1) = 512 * (128 * (i 2).val / 512) + 448 + 64 := by omega
  rw [e]
  exact ⟨_, ((((((((hA1.step (T := 512 * (128 * (i 2).val / 512) + 0) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 0 1 (by omega) (by omega) (by simp) _ (k0_off13_eq i) _ _ ((k0_off16_eq i 0).trans (by simp; omega)) _ rfl) (by omega) (by omega) (by omega) _ _ _ (v86_eq i) _ rfl) (by omega) _ _ _ _).step (T := 512 * (128 * (i 2).val / 512) + 64) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 1 1 (by omega) (by omega) (by simp) _ (k0_off13_eq i) _ _ ((k0_off16_eq i 1).trans (by simp; omega)) _ rfl) (by omega) (by omega) (by omega) _ _ _ (v86_eq i) _ rfl) (by omega) _ _ _ _).step (T := 512 * (128 * (i 2).val / 512) + 128) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 2 1 (by omega) (by omega) (by simp) _ (k0_off13_eq i) _ _ ((k0_off16_eq i 2).trans (by simp; omega)) _ rfl) (by omega) (by omega) (by omega) _ _ _ (v86_eq i) _ rfl) (by omega) _ _ _ _).step (T := 512 * (128 * (i 2).val / 512) + 192) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 3 1 (by omega) (by omega) (by simp) _ (k0_off13_eq i) _ _ ((k0_off16_eq i 3).trans (by simp; omega)) _ rfl) (by omega) (by omega) (by omega) _ _ _ (v86_eq i) _ rfl) (by omega) _ _ _ _).step (T := 512 * (128 * (i 2).val / 512) + 256) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 4 1 (by omega) (by omega) (by simp) _ (k0_off13_eq i) _ _ ((k0_off16_eq i 4).trans (by simp; omega)) _ rfl) (by omega) (by omega) (by omega) _ _ _ (v86_eq i) _ rfl) (by omega) _ _ _ _).step (T := 512 * (128 * (i 2).val / 512) + 320) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 5 1 (by omega) (by omega) (by simp) _ (k0_off13_eq i) _ _ ((k0_off16_eq i 5).trans (by simp; omega)) _ rfl) (by omega) (by omega) (by omega) _ _ _ (v86_eq i) _ rfl) (by omega) _ _ _ _).step (T := 512 * (128 * (i 2).val / 512) + 384) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 6 1 (by omega) (by omega) (by simp) _ (k0_off13_eq i) _ _ ((k0_off16_eq i 6).trans (by simp; omega)) _ rfl) (by omega) (by omega) (by omega) _ _ _ (v86_eq i) _ rfl) (by omega) _ _ _ _).step (T := 512 * (128 * (i 2).val / 512) + 448) (piece_mask (t := (i 2).val) (v := 128 * (i 2).val - 512 * (128 * (i 2).val / 512)) (piece_gen arg4 arg6 f1 f3 (Cert.KernelIdeal.Body.run.sl.r_4 (F := Ideal) arg5 f2) (Cert.KernelIdeal.Body.run.sl.r_6 (F := Ideal) i arg3 f0) (Cert.KernelIdeal.Body.run.sl.r_5 (F := Ideal) i arg3 f0) (Cert.KernelIdeal.Body.run.sl.r_6 (F := Ideal) i arg3 f0) (512 * (128 * (i 2).val / 512)) 7 1 (by omega) (by omega) (by simp) _ (k0_off13_eq i) _ _ ((k0_off16_eq i 7).trans (by simp; omega)) _ rfl) (by omega) (by omega) (by omega) _ _ _ (v86_eq i) _ rfl) (by omega) _ _ _ _), rfl⟩
end

end Cert.KernelIdeal.Value

end
-- ==== Proof.T3.lean ====
/- The loop that sums: the weights of a chunk of 512 rows added per residue, and the values of those rows added by weight. -/
module

public import proofs.«01_k».proof.Proof.Score

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen

/-- One weight before the division: two to the score less the row's maximum and eight. -/
def PN (G : S32768x256.Idx → EReal) (a : FVec Ideal S8x128 .f32) (h r : ℕ) (q : Fin 128) : EReal :=
  FloatOps.exp2 (F := Ideal) (φ := .f32) (gN G r (128 * h + q.val) - k0_pay147 (F := Ideal) a (ix2 0 q))

/-- A chunk of stored scores loaded, at an element. -/
theorem ld10 (arg10 : Memref sig .tc .vmem S32768x256 .f32) (X10 : BufTy.Contents (Elt Ideal) arg10.view.ty) (G : S32768x256.Idx → EReal) (T R C : ℕ)
    (hX : ∀ y : S32768x256.Idx, (y 0).val < T → arg10.view.read (Elt Ideal) X10 y = G y) (hR : R + 512 ≤ T)
    (o : Fin 2 → ℕ) (inb : ∀ a, o a + S512x128.size a ≤ S32768x256.size a) (ho : o = ![R, C]) (a : Fin 512) (q : Fin 128) :
    View.readAt (Elt Ideal) arg10.view (Rect.unit (s := S32768x256) o S512x128.size inb).toLoadRect X10 (ix2 a q) = gN G (R + a.val) (C + q.val) := by
  subst ho
  rw [View.readAt_eq_ld]
  pointwise
  exact (hX _ (show R + a.val < T by omega)).trans (gN_of rfl rfl).symm

/-- A chunk of value codes loaded, at an element. -/
theorem ld7 (arg7 : Memref sig .tc .vmem S1x128x32768 .fp8e4m3) (X7 : BufTy.Contents (Elt Ideal) arg7.view.ty) (R : ℕ) (hR : R + 512 ≤ 32768)
    (o : Fin 3 → ℕ) (inb : ∀ a, o a + S1x128x512.size a ≤ S1x128x32768.size a) (ho : o = ![0, 0, R]) (d : Fin 128) (a : Fin 512) :
    View.readAt (Elt Ideal) arg7.view (Rect.unit (s := S1x128x32768) o S1x128x512.size inb).toLoadRect X7 (ix3 0 d a)
      = arg7.view.read (Elt Ideal) X7 (ix3 0 d ⟨R + a.val, by omega⟩) := by
  subst ho
  rw [View.readAt_eq_ld]
  pointwise

/-- The accumulator loaded whole. -/
theorem ld11 (arg11 : Memref sig .tc .vmem S128x256 .f32) (X : BufTy.Contents (Elt Ideal) arg11.view.ty) (inb) :
    View.readAt (Elt Ideal) arg11.view (Rect.unit (s := S128x256) ![0, 0] S128x256.size inb).toLoadRect X = arg11.view.read (Elt Ideal) X := by
  rw [View.readAt_eq_ld]
  funext x
  refine congrArg (arg11.view.read (Elt Ideal) X) (funext fun a => Fin.ext ?_)
  fin_cases a
  · show 0 + 1 * (x 0).val = (x 0).val; omega
  · show 0 + 1 * (x 1).val = (x 1).val; omega

/-- The accumulator written whole reads back as what was written. -/
theorem read_whole (arg11 : Memref sig .tc .vmem S128x256 .f32) (X : BufTy.Contents (Elt Ideal) arg11.view.ty) (inb) (w : FVec Ideal S128x256 .f32)
    (L : List (View.Piece (Elt Ideal) S128x256 .f32)) (d : Fin 128) (q : Fin 256) :
    arg11.view.read (Elt Ideal) (arg11.view.writes (Elt Ideal) X (⟨Rect.unit (s := S128x256) ![0, 0] S128x256.size inb, w⟩ :: L)) (ix2 d q) = w (ix2 d q) := by
  have h := View.read_writes_cons_emb arg11.view X (Rect.unit (s := S128x256) ![0, 0] S128x256.size inb) w L (ix2 d q)
  have e : (Rect.unit (s := S128x256) ![0, 0] S128x256.size inb).emb (ix2 d q) = (ix2 d q : S128x256.Idx) := by
    funext a
    refine Fin.ext ?_
    rw [Rect.emb_apply]
    fin_cases a
    · show 0 + 1 * d.val = d.val; omega
    · show 0 + 1 * q.val = q.val; omega
  rwa [e] at h

/-- What column `q` of head `h` weighs row `r`, for a column of both heads side by side. -/
def PC (G : S32768x256.Idx → EReal) (a0 a1 : FVec Ideal S8x128 .f32) (r : ℕ) (q : Fin 256) : EReal :=
  if h : q.val < 128 then PN G a0 0 r ⟨q.val, h⟩ else PN G a1 1 r ⟨q.val - 128, by omega⟩

/-- A code of the values at a plain row number. -/
def vN (x7 : FVec Ideal S1x128x32768 .fp8e4m3) (d : Fin 128) (r : ℕ) : EReal := if h : r < 32768 then x7 (ix3 0 d ⟨r, h⟩) else 0

/-- The weights of the first head, at an element. -/
theorem w152 {G : S32768x256.Idx → EReal} {R : ℕ} (v270 : FVec Ideal S8x128 .f32) (x : FVec Ideal S512x128 .f32)
    (hx : ∀ (a : Fin 512) (q : Fin 128), x (ix2 a q) = gN G (R + a.val) (0 + q.val)) (a : Fin 512) (q : Fin 128) :
    k0_pay152 (F := Ideal) v270 x (ix2 a q) = PN G v270 0 (R + a.val) q := by
  unfold k0_pay152 PN
  pointwise
  rw [hx, Nat.zero_add]

/-- The weights of the second head, at an element. -/
theorem w154 {G : S32768x256.Idx → EReal} {R : ℕ} (v431 : FVec Ideal S8x128 .f32) (v439 : FVec Ideal S64x128 .f32) (v441 v443 : IVec S64x128 32)
    {a1 : FVec Ideal S8x128 .f32} (he : k0_pay148 v431 v439 v441 v443 = k0_pay147 a1) (x : FVec Ideal S512x128 .f32)
    (hx : ∀ (a : Fin 512) (q : Fin 128), x (ix2 a q) = gN G (R + a.val) (128 + q.val)) (a : Fin 512) (q : Fin 128) :
    k0_pay154 (F := Ideal) v431 v439 v441 v443 x (ix2 a q) = PN G a1 1 (R + a.val) q := by
  unfold k0_pay154 PN
  pointwise
  rw [hx, he]

/-- A sum of blocks of 64 grows by one block. -/
theorem sum64 (f : ℕ → EReal) (k : ℕ) : ∑ j ∈ Finset.range (64 * (k + 1)), f j = ∑ j ∈ Finset.range (64 * k), f j + ∑ j : Fin 64, f (64 * k + j.val) := by
  rw [show 64 * (k + 1) = 64 * k + 64 by ring, Finset.sum_range_add, Finset.sum_range (n := 64)]

/-- A sum of blocks of 512 grows by one block. -/
theorem sum512 (f : ℕ → EReal) (k : ℕ) : ∑ j ∈ Finset.range (512 * (k + 1)), f j = ∑ j ∈ Finset.range (512 * k), f j + ∑ j : Fin 512, f (512 * k + j.val) := by
  rw [show 512 * (k + 1) = 512 * k + 512 by ring, Finset.sum_range_add, Finset.sum_range (n := 512)]

/-- One trip adds its weights to the sums of the first head. -/
theorem l153 {G : S32768x256.Idx → EReal} {k : ℕ} (v270 acc : FVec Ideal S8x128 .f32) (x : FVec Ideal S512x128 .f32)
    (hx : ∀ (a : Fin 512) (q : Fin 128), x (ix2 a q) = gN G (512 * k + a.val) (0 + q.val))
    (ha : ∀ (s : Fin 8) (q : Fin 128), acc (ix2 s q) = ∑ j ∈ Finset.range (64 * k), PN G v270 0 (8 * j + s.val) q) (s : Fin 8) (q : Fin 128) :
    k0_pay153 (F := Ideal) v270 acc x (ix2 s q) = ∑ j ∈ Finset.range (64 * (k + 1)), PN G v270 0 (8 * j + s.val) q := by
  unfold k0_pay153
  pointwise
  rw [ha, sum64 (fun j => PN G v270 0 (8 * j + s.val) q)]
  congr 1
  refine Finset.sum_congr rfl fun j _ => ?_
  rw [w152 v270 x hx]
  dsimp only
  congr 1
  omega

/-- One trip adds its weights to the sums of the second head. -/
theorem l155 {G : S32768x256.Idx → EReal} {k : ℕ} (v431 : FVec Ideal S8x128 .f32) (v439 : FVec Ideal S64x128 .f32) (v441 v443 : IVec S64x128 32)
    {a1 : FVec Ideal S8x128 .f32} (he : k0_pay148 v431 v439 v441 v443 = k0_pay147 a1) (acc : FVec Ideal S8x128 .f32) (x : FVec Ideal S512x128 .f32)
    (hx : ∀ (a : Fin 512) (q : Fin 128), x (ix2 a q) = gN G (512 * k + a.val) (128 + q.val))
    (ha : ∀ (s : Fin 8) (q : Fin 128), acc (ix2 s q) = ∑ j ∈ Finset.range (64 * k), PN G a1 1 (8 * j + s.val) q) (s : Fin 8) (q : Fin 128) :
    k0_pay155 (F := Ideal) v431 v439 v441 v443 acc x (ix2 s q) = ∑ j ∈ Finset.range (64 * (k + 1)), PN G a1 1 (8 * j + s.val) q := by
  unfold k0_pay155
  pointwise
  rw [ha, sum64 (fun j => PN G a1 1 (8 * j + s.val) q)]
  congr 1
  refine Finset.sum_congr rfl fun j _ => ?_
  rw [w154 v431 v439 v441 v443 he x hx]
  dsimp only
  congr 1
  omega

/-- One trip adds its weighted value codes to the accumulator. -/
theorem a156 {G : S32768x256.Idx → EReal} {k : ℕ} (hk : 512 * k + 512 ≤ 32768) (v270 : FVec Ideal S8x128 .f32) (v431 : FVec Ideal S8x128 .f32) (v439 : FVec Ideal S64x128 .f32) (v441 v443 : IVec S64x128 32)
    {a1 : FVec Ideal S8x128 .f32} (he : k0_pay148 v431 v439 v441 v443 = k0_pay147 a1) (x x' : FVec Ideal S512x128 .f32)
    (hx : ∀ (a : Fin 512) (q : Fin 128), x (ix2 a q) = gN G (512 * k + a.val) (0 + q.val))
    (hx' : ∀ (a : Fin 512) (q : Fin 128), x' (ix2 a q) = gN G (512 * k + a.val) (128 + q.val))
    (w : FVec Ideal S128x256 .f32) (v : FVec Ideal S1x128x512 .fp8e4m3) (x7 : FVec Ideal S1x128x32768 .fp8e4m3)
    (hv : ∀ (d : Fin 128) (a : Fin 512), v (ix3 0 d a) = x7 (ix3 0 d ⟨512 * k + a.val, by omega⟩))
    (hw : ∀ (d : Fin 128) (q : Fin 256), w (ix2 d q) = ∑ r ∈ Finset.range (512 * k), vN x7 d r * PC G v270 a1 r q) (d : Fin 128) (q : Fin 256) :
    k0_pay156 (F := Ideal) v270 v431 v439 v441 v443 x x' w v (ix2 d q) = ∑ r ∈ Finset.range (512 * (k + 1)), vN x7 d r * PC G v270 a1 r q := by
  unfold k0_pay156
  pointwise
  rw [hw, sum512 (fun r => vN x7 d r * PC G v270 a1 r q)]
  congr 1
  refine Finset.sum_congr rfl fun j _ => ?_
  rw [hv]
  unfold vN PC
  rw [dif_pos (show 512 * k + j.val < 32768 by omega)]
  congr 1
  by_cases h : q.val < 128
  · rw [dif_pos h, dif_pos h]
    exact w152 v270 x hx _ _
  · rw [dif_neg h, dif_neg h]
    exact w154 v431 v439 v441 v443 he x' hx' _ _

/-- What the loop has done before trip `k`: the sums per residue of the weights of the rows below `512 k`, and the
    values of those rows summed by weight. -/
def T3Inv (arg11 : Memref sig .tc .vmem S128x256 .f32) (G11 : BufTy.Contents (Elt Ideal) arg11.view.ty) (G : S32768x256.Idx → EReal) (a0 a1 : FVec Ideal S8x128 .f32)
    (x7 : FVec Ideal S1x128x32768 .fp8e4m3) (k : ℕ) (st : (FVec Ideal S8x128 .f32 × FVec Ideal S8x128 .f32) × List (View.Piece (Elt Ideal) S128x256 .f32)) : Prop :=
  (∀ (s : Fin 8) (q : Fin 128), st.1.1 (ix2 s q) = ∑ j ∈ Finset.range (64 * k), PN G a0 0 (8 * j + s.val) q)
    ∧ (∀ (s : Fin 8) (q : Fin 128), st.1.2 (ix2 s q) = ∑ j ∈ Finset.range (64 * k), PN G a1 1 (8 * j + s.val) q)
    ∧ ∀ (d : Fin 128) (q : Fin 256), arg11.view.read (Elt Ideal) (arg11.view.writes (Elt Ideal) G11 st.2) (ix2 d q) = ∑ r ∈ Finset.range (512 * k), vN x7 d r * PC G a0 a1 r q

variable (𝒱 : Variants) (c : Dev nD) (bd : Option 𝒱.V) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
  (v1 v78 : BitVec 32) (v270 v431 : FVec Ideal S8x128 .f32) (v439 : FVec Ideal S64x128 .f32) (v441 v443 : IVec S64x128 32) (X7 : BufTy.Contents (Elt Ideal) arg7.view.ty) (X10 : BufTy.Contents (Elt Ideal) arg10.view.ty) (G11 : BufTy.Contents (Elt Ideal) arg11.view.ty)

/-- The invariant of the value loop: the sums of weights and of weighted value codes over the chunks so far. -/
theorem t3_inv (G : S32768x256.Idx → EReal) (T : ℕ) (hX : ∀ y : S32768x256.Idx, (y 0).val < T → arg10.view.read (Elt Ideal) X10 y = G y)
    (hT : T ≤ 32768) (hn : 512 * (k0_t3_loop i).trips ≤ T) {a1 : FVec Ideal S8x128 .f32} (he : k0_pay148 v431 v439 v441 v443 = k0_pay147 a1)
    (init) (h0 : T3Inv arg11 G11 G v270 a1 (arg7.view.read (Elt Ideal) X7) 0 (init, [])) (n : ℕ) (hn : n ≤ (k0_t3_loop i).trips) :
    T3Inv arg11 G11 G v270 a1 (arg7.view.read (Elt Ideal) X7) n (st_k0_t3 (F := Ideal) 𝒱 c bd i arg3 harg3 arg4 harg4 arg5 harg5 arg6 harg6 arg7 harg7 arg8 harg8 arg9 harg9 arg10 harg10 arg11 harg11 v1 v78 v270 v431 v439 v441 v443 X7 X10 G11 init n) := by
  induction n with
  | zero => exact h0
  | succ n ih =>
    obtain ⟨a, b, d⟩ := ih (by omega)
    have s := st_k0_t3_succ (F := Ideal) 𝒱 c bd i arg3 harg3 arg4 harg4 arg5 harg5 arg6 harg6 arg7 harg7 arg8 harg8 arg9 harg9 arg10 harg10 arg11 harg11 v1 v78 v270 v431 v439 v441 v443 X7 X10 G11 init ⟨n, by omega⟩
    dsimp only at s
    rw [s]
    have l0 := ld10 arg10 X10 G T (512 * n) 0 hX (by omega) _ (k0_off18_inb i ⟨n, by omega⟩) (k0_off18_eq i ⟨n, by omega⟩)
    have l1 := ld10 arg10 X10 G T (512 * n) 128 hX (by omega) _ (k0_off19_inb i ⟨n, by omega⟩) (k0_off19_eq i ⟨n, by omega⟩)
    have l7 := ld7 arg7 X7 (512 * n) (by omega) _ (k0_off20_inb i ⟨n, by omega⟩) (k0_off20_eq i ⟨n, by omega⟩)
    have L0 := l153 v270 (st_k0_t3 (F := Ideal) 𝒱 c bd i arg3 harg3 arg4 harg4 arg5 harg5 arg6 harg6 arg7 harg7 arg8 harg8 arg9 harg9 arg10 harg10 arg11 harg11 v1 v78 v270 v431 v439 v441 v443 X7 X10 G11 init n).1.1 _ l0 a
    have L1 := l155 v431 v439 v441 v443 he (st_k0_t3 (F := Ideal) 𝒱 c bd i arg3 harg3 arg4 harg4 arg5 harg5 arg6 harg6 arg7 harg7 arg8 harg8 arg9 harg9 arg10 harg10 arg11 harg11 v1 v78 v270 v431 v439 v441 v443 X7 X10 G11 init n).1.2 _ l1 b
    have A := a156 (by omega) v270 v431 v439 v441 v443 he _ _ l0 l1
      (View.readAt (Elt Ideal) arg11.view (Rect.unit (s := S128x256) ![0, 0] S128x256.size inb_S128x256_S128x256_0_0).toLoadRect (arg11.view.writes (Elt Ideal) G11 (st_k0_t3 (F := Ideal) 𝒱 c bd i arg3 harg3 arg4 harg4 arg5 harg5 arg6 harg6 arg7 harg7 arg8 harg8 arg9 harg9 arg10 harg10 arg11 harg11 v1 v78 v270 v431 v439 v441 v443 X7 X10 G11 init n).2))
      _ _ l7 (fun d' q' => (congrFun (ld11 arg11 _ _) _).trans (d d' q'))
    generalize (st_k0_t3 (F := Ideal) 𝒱 c bd i arg3 harg3 arg4 harg4 arg5 harg5 arg6 harg6 arg7 harg7 arg8 harg8 arg9 harg9 arg10 harg10 arg11 harg11 v1 v78 v270 v431 v439 v441 v443 X7 X10 G11 init n) = st at L0 L1 A
    unfold tripL_k0_t3 tripR_k0_t3 trip_k0_t3
    dsimp only
    refine ⟨L0, L1, fun dd q => ?_⟩
    rw [List.singleton_append]
    exact (read_whole arg11 G11 _ _ _ dd q).trans (A dd q)

end Cert.KernelIdeal.Value

end
-- ==== Proof.Out.lean ====
/- The output block of one run, element by element: a weighted mean of the values times the values' scale. -/
module

public import proofs.«01_k».proof.Proof.Diag
public import proofs.«01_k».proof.Proof.T3

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen

/-- A quarter of the accumulator loaded, at an element. -/
theorem ld11h (arg11 : Memref sig .tc .vmem S128x256 .f32) (X : BufTy.Contents (Elt Ideal) arg11.view.ty) (R C : ℕ)
    (o : Fin 2 → ℕ) (inb : ∀ a, o a + S64x128.size a ≤ S128x256.size a) (ho : o = ![R, C]) (hR : R + 64 ≤ 128) (hC : C + 128 ≤ 256) (a : Fin 64) (q : Fin 128) :
    View.readAt (Elt Ideal) arg11.view (Rect.unit (s := S128x256) o S64x128.size inb).toLoadRect X (ix2 a q)
      = arg11.view.read (Elt Ideal) X (ix2 ⟨R + a.val, by omega⟩ ⟨C + q.val, by omega⟩) := by
  subst ho
  rw [View.readAt_eq_ld]
  pointwise

/-- The channel scales loaded, at an element. -/
theorem ld8 (arg8 : Memref sig .tc .vmem S1x1x128 .f32) (X : BufTy.Contents (Elt Ideal) arg8.view.ty) (inb) (dd : Fin 128) :
    View.readAt (Elt Ideal) arg8.view (Rect.unit (s := S1x1x128) ![0, 0, 0] S1x1x128.size inb).toLoadRect X (ix3 0 0 dd) = arg8.view.read (Elt Ideal) X (ix3 0 0 dd) := by
  rw [View.readAt_eq_ld]
  pointwise

/-- The rows below `8 J`, told by residue. -/
theorem sum_residues (f : ℕ → EReal) (J : ℕ) : ∑ s : Fin 8, ∑ j ∈ Finset.range J, f (8 * j + s.val) = ∑ r ∈ Finset.range (8 * J), f r := by
  induction J with
  | zero => simp
  | succ J ih =>
    rw [show 8 * (J + 1) = 8 * J + 8 by ring, Finset.sum_range_add, Finset.sum_range (n := 8), ← ih, ← Finset.sum_add_distrib]
    exact Finset.sum_congr rfl fun s _ => Finset.sum_range_succ _ _

/-- The output block at an element: the accumulator divided by the sum of weights, times the channel scale. -/
theorem core_apply (arg8 : Memref sig .tc .vmem S1x1x128 .f32) (arg11 : Memref sig .tc .vmem S128x256 .f32)
    (s : (FVec Ideal S8x128 .f32 × FVec Ideal S8x128 .f32) × List (View.Piece (Elt Ideal) S128x256 .f32)) (f5 : BufTy.Contents (Elt Ideal) arg8.view.ty)
    {G : S32768x256.Idx → EReal} {a0 a1 : FVec Ideal S8x128 .f32} {x7 : FVec Ideal S1x128x32768 .fp8e4m3} {N : ℕ}
    (hs : T3Inv arg11 (arg11.view.writes (Elt Ideal) arg11.view.junk (Cert.KernelIdeal.Body.run.sl.G1_1 (F := Ideal))) G a0 a1 x7 N s) (q dd : Fin 128) :
    core arg8 arg11 s f5 (ix3 0 q dd)
      = Ideal.div (∑ r ∈ Finset.range (512 * N), vN x7 dd r * PN G (if dd.val < 64 then a0 else a1) (dd.val / 64) r q)
          (∑ r ∈ Finset.range (512 * N), PN G (if dd.val < 64 then a0 else a1) (dd.val / 64) r q) * (arg8.view.read (Elt Ideal) f5 (ix3 0 0 dd) : EReal) := by
  obtain ⟨h0, h1, h2⟩ := hs
  have e : 512 * N = 8 * (64 * N) := by ring
  unfold core k0_pay1 k0_pay162 View.readCov
  rw [View.writes_append]
  pointwise
  rw [ld8]
  congr 1
  by_cases hd : dd.val < 64
  · rw [dif_pos hd, if_pos hd, show dd.val / 64 = 0 by omega]
    rw [ld11h arg11 _ 0 0 _ _ rfl (by omega) (by omega), h2]
    congr 1
    · refine Finset.sum_congr rfl fun r _ => ?_
      unfold PC
      rw [dif_pos (show 0 + q.val < 128 by omega)]
      congr 2 <;> exact Fin.ext (Nat.zero_add _)
    · rw [e, ← sum_residues (fun r => PN G a0 0 r q)]
      exact Finset.sum_congr rfl fun u _ => h0 u q
  · rw [dif_neg hd, if_neg hd, show dd.val / 64 = 1 by omega]
    rw [ld11h arg11 _ 64 128 _ _ rfl (by omega) (by omega), h2]
    congr 1
    · refine Finset.sum_congr rfl fun r _ => ?_
      unfold PC
      rw [dif_neg (show ¬ 128 + q.val < 128 by omega)]
      congr 2
      · exact Fin.ext (show 64 + (dd.val - 64) = dd.val by omega)
      · exact Fin.ext (show 128 + q.val - 128 = q.val by omega)
    · rw [e, ← sum_residues (fun r => PN G a1 1 r q)]
      exact Finset.sum_congr rfl fun u _ => h1 u q

end Cert.KernelIdeal.Value

end
-- ==== Proof.Block.lean ====
/- The output block of one run of the kernel's body, element by element, with both loops' results put together. -/
module

public import proofs.«01_k».proof.Proof.Out

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen

/-- The running maximum over its eight rows, less eight: the shift of one column of scores. -/
theorem shift_apply {G : S32768x256.Idx → EReal} {T h : ℕ} {a : FVec Ideal S8x128 .f32} (ha : IsMax G T h a) (q : Fin 128) :
    ∃ M : EReal, (∀ z, M ≤ z ↔ ∀ r < T, gN G r (128 * h + q.val) ≤ z) ∧ k0_pay147 a (ix2 0 q) = M - (Ideal.ofBits .f32 0x41000000#32 : EReal) := by
  refine ⟨Finset.univ.fold max (Ideal.ofBits .f32 0xFF800000#32) fun s : Fin 8 => (a (ix2 s q) : EReal), fun z => ?_, ?_⟩
  · rw [Finset.fold_max_le, ofBits_bot]
    constructor
    · rintro ⟨-, h2⟩ r hr
      exact (ha ⟨r % 8, by omega⟩ q z).1 (h2 _ (Finset.mem_univ _)) r hr rfl
    · intro H
      exact ⟨bot_le, fun s _ => (ha s q z).2 fun r hr _ => H r hr⟩
  · pointwise [k0_pay147]

variable (c : Dev nD) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
variable (f0 : BufTy.Contents (Elt Ideal) arg3.view.ty) (f1 : BufTy.Contents (Elt Ideal) arg4.view.ty) (f2 : BufTy.Contents (Elt Ideal) arg5.view.ty) (f3 : BufTy.Contents (Elt Ideal) arg6.view.ty) (f4 : BufTy.Contents (Elt Ideal) arg7.view.ty) (f5 : BufTy.Contents (Elt Ideal) arg8.view.ty) (g0 : BufTy.Contents (Elt Ideal) arg10.view.ty)

/-- The accumulator is zero before the value loop. -/
theorem acc_zero (d : Fin 128) (q : Fin 256) :
    arg11.view.read (Elt Ideal) (arg11.view.writes (Elt Ideal) (arg11.view.writes (Elt Ideal) arg11.view.junk (Cert.KernelIdeal.Body.run.sl.G1_1 (F := Ideal))) []) (ix2 d q) = (0 : EReal) := by
  unfold Cert.KernelIdeal.Body.run.sl.G1_1
  refine (read_whole arg11 _ _ _ _ d q).trans ?_
  pointwise [k0_pay149]

/-- What one run leaves in the output block: each element the mean of the values weighted by the powers of two of the
    shifted scores, times the value's scale. -/
theorem run_apply (q dd : Fin 128) : ∃ a0 a1, IsMax (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * ((128 * (i 2).val / 512) + 1)) 0 a0 ∧ IsMax (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * ((128 * (i 2).val / 512) + 1)) 1 a1 ∧
    (Cert.KernelIdeal.Body.run (F := Ideal) c i arg3 harg3 arg4 harg4 arg5 harg5 arg6 harg6 arg7 harg7 arg8 harg8 arg9 harg9 arg10 harg10 arg11 harg11 f0 f1 f2 f3 f4 f5 g0).1 (ix3 0 q dd)
      = Ideal.div (∑ r ∈ Finset.range (512 * ((128 * (i 2).val / 512) + 1)), vN (arg7.view.read (Elt Ideal) f4) dd r * PN (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (if dd.val < 64 then a0 else a1) (dd.val / 64) r q)
          (∑ r ∈ Finset.range (512 * ((128 * (i 2).val / 512) + 1)), PN (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (if dd.val < 64 then a0 else a1) (dd.val / 64) r q) * (arg8.view.read (Elt Ideal) f5 (ix3 0 0 dd) : EReal) := by
  have hi2 : (i 2).val < 256 := (i 2).isLt
  obtain ⟨a1, h1, he⟩ := r39_max c i arg3 harg3 arg4 harg4 arg5 harg5 arg6 harg6 arg7 harg7 arg8 harg8 arg9 harg9 arg10 harg10 arg11 harg11 f0 f1 f2 f3
  refine ⟨_, a1, r26_max c i arg3 harg3 arg4 harg4 arg5 harg5 arg6 harg6 arg7 harg7 arg8 harg8 arg9 harg9 arg10 harg10 arg11 harg11 f0 f1 f2 f3, h1, ?_⟩
  rw [run_core]
  refine core_apply arg8 arg11 _ f5 ?_ q dd
  have tr : (k0_t3_loop i).trips = 128 * (i 2).val / 512 + 1 := t3_trips i
  have T1 := t1i c i arg3 harg3 arg4 harg4 arg5 harg5 arg6 harg6 arg7 harg7 arg8 harg8 arg9 harg9 arg10 harg10 arg11 harg11 f0 f1 f2 f3
  obtain ⟨p1, p2, -, -⟩ := T1
  unfold st3
  rw [t3_trips]
  refine t3_inv .none c none i arg3 harg3 arg4 harg4 arg5 harg5 arg6 harg6 arg7 harg7 arg8 harg8 arg9 harg9 arg10 harg10 arg11 harg11 _ _ _ _ _ _ _ f4 _ _ (MS (Cert.KernelIdeal.Body.run.sl.r_4 (F := Ideal) arg5 f2) (arg6.view.read (Elt Ideal) f3) (arg4.view.read (Elt Ideal) f1) (Cert.KernelIdeal.Body.run.sl.r_5 (F := Ideal) i arg3 f0) (Cert.KernelIdeal.Body.run.sl.r_6 (F := Ideal) i arg3 f0) (i 2).val) (512 * ((128 * (i 2).val / 512) + 1)) ?_ (by omega) (by rw [tr]) he _ ?_ _ (by rw [tr])
  · intro y hy
    refine View.read_writes_apply_of_pieces _ _ _ _ (diag_pieces c i arg3 harg3 arg4 harg4 arg5 harg5 arg6 harg6 arg7 harg7 arg8 harg8 arg9 harg9 arg10 harg10 arg11 harg11 f0 f1 f2 f3 _ ?_) y (diag_cover c i arg3 harg3 arg4 harg4 arg5 harg5 arg6 harg6 arg7 harg7 arg8 harg8 arg9 harg9 arg10 harg10 arg11 harg11 f0 f1 f2 f3 _ ?_ y hy)
    · rw [st2_zero]
      exact p1
    · rw [st2_zero]
      intro y hy
      refine p2 y ?_
      have := t1_trips i
      exact hy.trans_eq (congrArg _ this.symm)
  · refine ⟨fun s q => ?_, fun s q => ?_, fun d q => ?_⟩
    · rw [Nat.mul_zero, Finset.sum_range_zero]; pointwise [k0_pay150]
    · rw [Nat.mul_zero, Finset.sum_range_zero]; pointwise [k0_pay151]
    · rw [Nat.mul_zero, Finset.sum_range_zero]; exact acc_zero arg11 d q

end Cert.KernelIdeal.Value
-- ==== Proof.Inputs.lean ====
/- What the kernel's body reads of its query block and of the query scales, element by element. -/
module

public import proofs.«01_k».proof.Proof.Block

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen

/-- Which half of the lanes, as the kernel computes it: the lane divided by 64, rounded down. -/
theorem lane_half0 : ∀ d : Fin 128, IntOp.cmpi CmpIPredicate.eq (Scalar.select
            (IntOp.andi
              (IntOp.cmpi CmpIPredicate.ne
                (IntOp.subi (BitVec.setWidth 32 (IntOp.cmpi CmpIPredicate.sgt (BitVec.ofNat 32 d.val) 0#32))
                  (BitVec.setWidth 32 (IntOp.cmpi CmpIPredicate.slt (BitVec.ofNat 32 d.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 d.val) 64#32) 0#32))
            (IntOp.subi (IntOp.divsi ArithUnit.vector (BitVec.ofNat 32 d.val) 64#32) 1#32)
            (IntOp.divsi ArithUnit.vector (BitVec.ofNat 32 d.val) 64#32)) 0#32 = BitVec.ofBool (decide (d.val / 64 = 0)) := by decide +kernel

/-- The same comparison for the second half of the lanes. -/
theorem lane_half1 : ∀ d : Fin 128, IntOp.cmpi CmpIPredicate.eq (Scalar.select
            (IntOp.andi
              (IntOp.cmpi CmpIPredicate.ne
                (IntOp.subi (BitVec.setWidth 32 (IntOp.cmpi CmpIPredicate.sgt (BitVec.ofNat 32 d.val) 0#32))
                  (BitVec.setWidth 32 (IntOp.cmpi CmpIPredicate.slt (BitVec.ofNat 32 d.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 d.val) 64#32) 0#32))
            (IntOp.subi (IntOp.divsi ArithUnit.vector (BitVec.ofNat 32 d.val) 64#32) 1#32)
            (IntOp.divsi ArithUnit.vector (BitVec.ofNat 32 d.val) 64#32)) 1#32 = BitVec.ofBool (decide (d.val / 64 = 1)) := by decide +kernel

/-- The query block laid out for one product over both heads of the pair: row `128 h + q` keeps the lanes of head `h`. -/
def Wq (x2 : S1x128x128.Idx → EReal) : S256x128.Idx → EReal := fun y =>
  if (y 1).val / 64 = (y 0).val / 128 then x2 (ix3 0 ⟨(y 0).val % 128, Nat.mod_lt _ (by norm_num)⟩ (y 1)) else 0

/-- The query block loaded whole, at an element. -/
theorem ld5 (arg5 : Memref sig .tc .vmem S1x128x128 .fp8e4m3) (X : BufTy.Contents (Elt Ideal) arg5.view.ty) (inb) (q d : Fin 128) :
    View.readAt (Elt Ideal) arg5.view (Rect.unit (s := S1x128x128) ![0, 0, 0] ![1, 128, 128] inb).toLoadRect X (ix3 0 q d) = arg5.view.read (Elt Ideal) X (ix3 0 q d) := by
  rw [View.readAt_eq_ld]
  pointwise

/-- The kernel's masked query matrix is `Wq` of the query block. -/
theorem r4_eq (arg5 : Memref sig .tc .vmem S1x128x128 .fp8e4m3) (f2 : BufTy.Contents (Elt Ideal) arg5.view.ty) :
    Cert.KernelIdeal.Body.run.sl.r_4 (F := Ideal) arg5 f2 = Wq (arg5.view.read (Elt Ideal) f2) := by
  funext y
  idx_vars y
  have hb : (y0 : Fin 256).val < 256 := y0.isLt
  unfold Cert.KernelIdeal.Body.run.sl.r_4 Cert.KernelIdeal.Body.run.sl.r Cert.KernelIdeal.Body.run.sl.r_1 Cert.KernelIdeal.Body.run.sl.v4
  pointwise [k0_pay83, k0_pay78, k0_pay79, k0_pay80, k0_pay81, k0_pay82]
  simp only [lane_half0, lane_half1, Scalar.select_decide, ld5]
  show _ = if y1.val / 64 = y0.val / 128 then (arg5.view.read (Elt Ideal) f2) (ix3 0 ⟨y0.val % 128, _⟩ y1) else 0
  have hz : Ideal.ofBits .fp8e4m3 0#8 = 0 := Ideal.ofBits_zero _
  rw [hz]
  by_cases h : y0.val < 128
  · rw [dif_pos h, show y0.val / 128 = 0 by omega, show (⟨y0.val % 128, Nat.mod_lt _ (by norm_num)⟩ : Fin 128) = ⟨y0.val, h⟩ from Fin.ext (show y0.val % 128 = y0.val by omega)]
  · rw [dif_neg h, show y0.val / 128 = 1 by omega, show (⟨y0.val % 128, Nat.mod_lt _ (by norm_num)⟩ : Fin 128) = ⟨y0.val - 128, by omega⟩ from Fin.ext (show y0.val % 128 = y0.val - 128 by omega)]

/-- The scale of one query block of one head, with the factor of the scores and of the change of base. -/
def zq (x0 : S1x1x2x256.Idx → EReal) (t : Fin 256) (h : Fin 2) : EReal := x0 (ix4 0 0 h t) * ((((1 / 8) * (Real.log 2)⁻¹ : ℝ)) : EReal)

/-- One query scale loaded from its block. -/
theorem ld3 (arg3 : Memref sig .tc .smem S1x1x2x256 .f32) (X : BufTy.Contents (Elt Ideal) arg3.view.ty) (h : Fin 2) (t : Fin 256)
    {o : Fin 4 → ℕ} (inb : ∀ a, o a + S1x1x1x1.size a ≤ S1x1x2x256.size a) (ho : o = ![0, 0, h.val, t.val]) (hn) :
    View.readAt (Elt Ideal) arg3.view (Rect.unit (s := S1x1x2x256) o S1x1x1x1.size inb).toLoadRect X (Shape.Idx.first hn) = arg3.view.read (Elt Ideal) X (ix4 0 0 h t) := by
  subst ho
  rw [View.readAt_eq_ld]
  show arg3.view.read (Elt Ideal) X _ = _
  congr 1
  funext a
  apply Fin.ext
  fin_cases a
  · rfl
  · rfl
  · rfl
  · rfl

/-- The named constant at the ideal instance. -/
theorem named_scale : Named.named (F := Ideal) Cert.KernelIdeal.κ "sm_scale_log2e" (φ := .f32) 0x3E38AA3B#32 = (((1 / 8) * (Real.log 2)⁻¹ : ℝ) : EReal) :=
  IdealRules.named_const.ideal_named_scalar _ _ _ _ rfl

/-- The scale of the first head, times the named constant. -/
theorem r5_eq (i : grid0.Coords) (arg3 : Memref sig .tc .smem S1x1x2x256 .f32) (f0 : BufTy.Contents (Elt Ideal) arg3.view.ty) :
    Cert.KernelIdeal.Body.run.sl.r_5 (F := Ideal) i arg3 f0 = zq (arg3.view.read (Elt Ideal) f0) (i 2) 0 := by
  unfold Cert.KernelIdeal.Body.run.sl.r_5 Cert.KernelIdeal.Body.run.sl.r_2 k0_pay84 zq
  rw [ld3 arg3 f0 0 (i 2) _ (k0_off1_eq i), named_scale]
  rfl

/-- The scale of the second head, times the named constant. -/
theorem r6_eq (i : grid0.Coords) (arg3 : Memref sig .tc .smem S1x1x2x256 .f32) (f0 : BufTy.Contents (Elt Ideal) arg3.view.ty) :
    Cert.KernelIdeal.Body.run.sl.r_6 (F := Ideal) i arg3 f0 = zq (arg3.view.read (Elt Ideal) f0) (i 2) 1 := by
  unfold Cert.KernelIdeal.Body.run.sl.r_6 Cert.KernelIdeal.Body.run.sl.r_3 k0_pay85 zq
  rw [ld3 arg3 f0 1 (i 2) _ (k0_off2_eq i), named_scale]
  rfl

/-- The masked scores of one grid point. -/
def Gblk (x0 : S1x1x2x256.Idx → EReal) (x1 : S1x1x2x512.Idx → EReal) (x2 : S1x128x128.Idx → EReal) (x3 : S1x32768x128.Idx → EReal) (t : Fin 256) : S32768x256.Idx → EReal :=
  MS (Wq x2) x3 x1 (zq x0 t 0) (zq x0 t 1) t.val

/-- One weight of one grid point: the power of two of the score less the maximum, raised by eight. -/
def wblk (G : S32768x256.Idx → EReal) (n h r : ℕ) (q : Fin 128) : EReal :=
  Ideal.exp2 (gN G r (128 * h + q.val) - ((Finset.range n).sup (fun r => gN G r (128 * h + q.val)) - ((8 : ℝ) : EReal)))

/-- What one run of the body leaves in the output block, as a function of its input blocks. -/
def blk (x0 : S1x1x2x256.Idx → EReal) (x1 : S1x1x2x512.Idx → EReal) (x2 : S1x128x128.Idx → EReal) (x3 : S1x32768x128.Idx → EReal) (x4 : S1x128x32768.Idx → EReal)
    (x5 : S1x1x128.Idx → EReal) (t : Fin 256) : S1x128x128.Idx → EReal := fun y =>
  Ideal.div (∑ r ∈ Finset.range (512 * (128 * t.val / 512 + 1)), vN x4 (y 2) r * wblk (Gblk x0 x1 x2 x3 t) (512 * (128 * t.val / 512 + 1)) ((y 2).val / 64) r (y 1))
    (∑ r ∈ Finset.range (512 * (128 * t.val / 512 + 1)), wblk (Gblk x0 x1 x2 x3 t) (512 * (128 * t.val / 512 + 1)) ((y 2).val / 64) r (y 1)) * x5 (ix3 0 0 (y 2))

/-- The weight the value loop computes is `wblk`, whatever form the maximum comes in. -/
theorem PN_eq {G : S32768x256.Idx → EReal} {n h : ℕ} {a : FVec Ideal S8x128 .f32} (ha : IsMax G n h a) (r : ℕ) (q : Fin 128) : PN G a h r q = wblk G n h r q := by
  obtain ⟨M, hM, e⟩ := shift_apply ha q
  have h8 : (Ideal.ofBits .f32 0x41000000#32 : EReal) = ((8 : ℝ) : EReal) := Cert.Consts.ofBits_8
  have : M = (Finset.range n).sup (fun r => gN G r (128 * h + q.val)) := eq_of_forall_ge_iff fun z => by
    rw [hM, Finset.sup_le_iff]; simp only [Finset.mem_range]
  unfold PN wblk
  rw [e, this, h8]
  rfl

variable (c : Dev nD) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
variable (f0 : BufTy.Contents (Elt Ideal) arg3.view.ty) (f1 : BufTy.Contents (Elt Ideal) arg4.view.ty) (f2 : BufTy.Contents (Elt Ideal) arg5.view.ty) (f3 : BufTy.Contents (Elt Ideal) arg6.view.ty) (f4 : BufTy.Contents (Elt Ideal) arg7.view.ty) (f5 : BufTy.Contents (Elt Ideal) arg8.view.ty) (g0 : BufTy.Contents (Elt Ideal) arg10.view.ty)

/-- One run's output block is `blk` of what its input blocks hold. -/
theorem run_blk : (Cert.KernelIdeal.Body.run (F := Ideal) c i arg3 harg3 arg4 harg4 arg5 harg5 arg6 harg6 arg7 harg7 arg8 harg8 arg9 harg9 arg10 harg10 arg11 harg11 f0 f1 f2 f3 f4 f5 g0).1
    = blk (arg3.view.read (Elt Ideal) f0) (arg4.view.read (Elt Ideal) f1) (arg5.view.read (Elt Ideal) f2) (arg6.view.read (Elt Ideal) f3) (arg7.view.read (Elt Ideal) f4) (arg8.view.read (Elt Ideal) f5) (i 2) := by
  funext y
  idx_vars y
  obtain rfl : y0 = 0 := Subsingleton.elim _ _
  obtain ⟨a0, a1, h0, h1, e⟩ := run_apply c i arg3 harg3 arg4 harg4 arg5 harg5 arg6 harg6 arg7 harg7 arg8 harg8 arg9 harg9 arg10 harg10 arg11 harg11 f0 f1 f2 f3 f4 f5 g0 y1 y2
  rw [e]
  rw [r4_eq, r5_eq, r6_eq] at h0 h1 ⊢
  unfold blk
  have hd : y2.val < 128 := y2.isLt
  have hw : ∀ r, PN (Gblk (arg3.view.read (Elt Ideal) f0) (arg4.view.read (Elt Ideal) f1) (arg5.view.read (Elt Ideal) f2) (arg6.view.read (Elt Ideal) f3) (i 2)) (if y2.val < 64 then a0 else a1) (y2.val / 64) r y1
      = wblk (Gblk (arg3.view.read (Elt Ideal) f0) (arg4.view.read (Elt Ideal) f1) (arg5.view.read (Elt Ideal) f2) (arg6.view.read (Elt Ideal) f3) (i 2)) (512 * (128 * (i 2).val / 512 + 1)) (y2.val / 64) r y1 := by
    intro r
    by_cases h : y2.val < 64
    · rw [if_pos h, show y2.val / 64 = 0 by omega]; exact PN_eq h0 r y1
    · rw [if_neg h, show y2.val / 64 = 1 by omega]; exact PN_eq h1 r y1
  exact congrArg₂ (· * ·) (congrArg₂ Ideal.div (Finset.sum_congr rfl fun r _ => congrArg (_ * ·) (hw r)) (Finset.sum_congr rfl fun r _ => hw r)) rfl

end Cert.KernelIdeal.Value
-- ==== Proof.KernelIdealFrame.lean ====
/- The launch of `KernelIdeal` on the extended reals: the body run at a generic grid point, its output block named as a
   function of its input blocks, the final array, and that the arguments come back unchanged. -/
module

public import proofs.«01_k».proof.Proof.Inputs

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Value

local notation "𝕄" => MT nD τ sig Unit (Elt Ideal) ℕ (UR sig nD τ) ℕ

/-- An output block written whole reads back as what was written. -/
theorem read_whole9 (arg9 : Memref sig .tc .vmem S1x128x128 .bf16) (f6 : BufTy.Contents (Elt Ideal) arg9.view.ty) (inb) (w : FVec Ideal S1x128x128 .bf16) :
    arg9.view.read (Elt Ideal) (arg9.view.writes (Elt Ideal) f6 [⟨Rect.unit (s := S1x128x128) ![0, 0, 0] S1x128x128.size inb, w⟩]) = w := by
  funext y
  have e : (Rect.unit (s := S1x128x128) ![0, 0, 0] S1x128x128.size inb).emb y = y := by
    funext a; apply Fin.ext; rw [Rect.emb_apply]; fin_cases a <;> (show 0 + 1 * _ = _; omega)
  have h := View.read_writes_cons_emb arg9.view f6 (Rect.unit (s := S1x128x128) ![0, 0, 0] S1x128x128.size inb) w [] y
  rw [e] at h
  exact h

/-- One run of the kernel body at any grid point: the inputs come back as they were, the output block at `blk` of
    the input blocks, the two scratch buffers at some contents. -/
theorem sound_kernel (c : Dev nD) (E : Set ℕ) (i : grid0.Coords) (arg3 : Memref sig .tc .smem S1x1x2x256 .f32) (harg3 : arg3.IsWhole) (arg4 : Memref sig .tc .smem S1x1x2x512 .f32) (harg4 : arg4.IsWhole) (arg5 : Memref sig .tc .vmem S1x128x128 .fp8e4m3) (harg5 : arg5.IsWhole) (arg6 : Memref sig .tc .vmem S1x32768x128 .fp8e4m3) (harg6 : arg6.IsWhole) (arg7 : Memref sig .tc .vmem S1x128x32768 .fp8e4m3) (harg7 : arg7.IsWhole) (arg8 : Memref sig .tc .vmem S1x1x128 .f32) (harg8 : arg8.IsWhole) (arg9 : Memref sig .tc .vmem S1x128x128 .bf16) (harg9 : arg9.IsWhole) (arg10 : Memref sig .tc .vmem S32768x256 .f32) (harg10 : arg10.IsWhole) (arg11 : Memref sig .tc .vmem S128x256 .f32) (harg11 : arg11.IsWhole)
    (x0 : S1x1x2x256.Idx → Elt Ideal .f32) (x1 : S1x1x2x512.Idx → Elt Ideal .f32) (x2 : S1x128x128.Idx → Elt Ideal .fp8e4m3) (x3 : S1x32768x128.Idx → Elt Ideal .fp8e4m3) (x4 : S1x128x32768.Idx → Elt Ideal .fp8e4m3) (x5 : S1x1x128.Idx → Elt Ideal .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
        ∗ (∃ f, arg10.view.loc (c : Thread nD τ) ↦[arg10.view.set]{fullShare} f) ∗ (∃ f, arg11.view.loc (c : Thread nD τ) ↦[arg11.view.set]{fullShare} f)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (blk x0 x1 x2 x3 x4 x5 (i 2))
          ∗ (∃ f, arg10.view.loc (c : Thread nD τ) ↦[arg10.view.set]{fullShare} f) ∗ (∃ f, arg11.view.loc (c : Thread nD τ) ↦[arg11.view.set]{fullShare} f)) -∗ K ⟨⟩))
      ⊢ wp frame (wpE (defs₀ (F := Ideal)) Variants.none c none) E (cc0_attention i arg3 harg3 arg4 harg4 arg5 harg5 arg6 harg6 arg7 harg7 arg8 harg8 arg9 harg9 arg10 harg10 arg11 harg11) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, G0⟩, ⟨%g1, G1⟩, Hk⟩
  have hO := run_blk c i arg3 harg3 arg4 harg4 arg5 harg5 arg6 harg6 arg7 harg7 arg8 harg8 arg9 harg9 arg10 harg10 arg11 harg11 f0 f1 f2 f3 f4 f5 g0
  rw [hf0, hf1, hf2, hf3, hf4, hf5] at hO
  iapply ((run (F := Ideal) c i arg3 harg3 arg4 harg4 arg5 harg5 arg6 harg6 arg7 harg7 arg8 harg8 arg9 harg9 arg10 harg10 arg11 harg11 f0 f1 f2 f3 f4 f5 g0).2 E K f6 g1)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [G0]; · iexact G0
  isplitl [G1]; · iexact G1
  iintro ⟨H0, H1, H2, H3, H4, H5, H6, G0, G1⟩
  iapply Hk
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; · iexact H6
    ipureintro
    rw [read_whole9, hO]
  isplitl [G0]; · iexact G0
  iexact G1

variable (m : (ℓ : Loc nD τ sig) → Buf (Elt Ideal) ℓ) (ρ : Dev nD → PrngReg)

/-- The proof data: the arrays as the region finds them, each input's buffer left at its block; the output's at `blk`
    of the input blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blk (iblk m c 0 t) (iblk m c 1 t) (iblk m c 2 t) (iblk m c 3 t) (iblk m c 4 t) (iblk m c 5 t) (grid0.coords t 2)
  Φ _ := Pipeline.ΦA spec0 c
  q _ := fullShare
  owed _ := 0

/-- The arrays as the region finds them. -/
theorem A_eq (c : Dev nD) (w : Fin cfg0.W) : (dats m 0 c).A w = V m c (Pipeline.arrRef spec0 w) := by
  dsimp only [dats]

/-- The body leaves input block 0 as it was. -/
theorem after0_0 (c : Dev nD) (t : Fin cfg0.N) : (dats m 0 c).after 0 t = iblk m c 0 t := by dsimp only [dats]
/-- The body leaves input block 1 as it was. -/
theorem after0_1 (c : Dev nD) (t : Fin cfg0.N) : (dats m 0 c).after 1 t = iblk m c 1 t := by dsimp only [dats]
/-- The body leaves input block 2 as it was. -/
theorem after0_2 (c : Dev nD) (t : Fin cfg0.N) : (dats m 0 c).after 2 t = iblk m c 2 t := by dsimp only [dats]
/-- The body leaves input block 3 as it was. -/
theorem after0_3 (c : Dev nD) (t : Fin cfg0.N) : (dats m 0 c).after 3 t = iblk m c 3 t := by dsimp only [dats]
/-- The body leaves input block 4 as it was. -/
theorem after0_4 (c : Dev nD) (t : Fin cfg0.N) : (dats m 0 c).after 4 t = iblk m c 4 t := by dsimp only [dats]
/-- The body leaves input block 5 as it was. -/
theorem after0_5 (c : Dev nD) (t : Fin cfg0.N) : (dats m 0 c).after 5 t = iblk m c 5 t := by dsimp only [dats]
/-- The output block at a point: the block of the kernel over its inputs. -/
theorem after0_6 (c : Dev nD) (t : Fin cfg0.N) : (dats m 0 c).after 6 t = blk (iblk m c 0 t) (iblk m c 1 t) (iblk m c 2 t) (iblk m c 3 t) (iblk m c 4 t) (iblk m c 5 t) (grid0.coords t 2) := by dsimp only [dats]
/-- The body finds input block 0 staged. -/
theorem before0_0 (c : Dev nD) (t : Fin cfg0.N) (d) : (dats m 0 c).before 0 t d = iblk m c 0 t :=
  before0_0_of m (dats m 0 c) (A_eq m c 0) (fun t => by dsimp only [dats]) t d
/-- The body finds input block 1 staged. -/
theorem before0_1 (c : Dev nD) (t : Fin cfg0.N) (d) : (dats m 0 c).before 1 t d = iblk m c 1 t :=
  before0_1_of m (dats m 0 c) (A_eq m c 1) (fun t => by dsimp only [dats]) t d
/-- The body finds input block 2 staged. -/
theorem before0_2 (c : Dev nD) (t : Fin cfg0.N) (d) : (dats m 0 c).before 2 t d = iblk m c 2 t :=
  before0_2_of m (dats m 0 c) (A_eq m c 2) (fun t => by dsimp only [dats]) t d
/-- The body finds input block 3 staged. -/
theorem before0_3 (c : Dev nD) (t : Fin cfg0.N) (d) : (dats m 0 c).before 3 t d = iblk m c 3 t :=
  before0_3_of m (dats m 0 c) (A_eq m c 3) (fun t => by dsimp only [dats]) t d
/-- The body finds input block 4 staged. -/
theorem before0_4 (c : Dev nD) (t : Fin cfg0.N) (d) : (dats m 0 c).before 4 t d = iblk m c 4 t :=
  before0_4_of m (dats m 0 c) (A_eq m c 4) (fun t => by dsimp only [dats]) t d
/-- The body finds input block 5 staged. -/
theorem before0_5 (c : Dev nD) (t : Fin cfg0.N) (d) : (dats m 0 c).before 5 t d = iblk m c 5 t :=
  before0_5_of m (dats m 0 c) (A_eq m c 5) (fun t => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the scratch is taken out of the region's invariant and put back. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl]
  simp only [after0_0, after0_1, after0_2, after0_3, after0_4, after0_5, after0_6]
  unfold Pipeline.ΦA
  rw [scopedRest0_eq]
  iintro ⟨⟨⟨⟨%g0, G0⟩, ⟨%g1, G1⟩⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [G0]
  · iexists g0; simp only [Memref.view_whole, View.set_whole]; iexact G0
  isplitl [G1]
  · iexists g1; simp only [Memref.view_whole, View.set_whole]; iexact G1
  iintro ⟨H0, H1, H2, H3, H4, H5, H6, ⟨%g0', G0⟩, ⟨%g1', G1⟩⟩
  isplitl [Hr G0 G1]
  · isplitr [Hr]
    · isplitl [G0]
      · iexists g0'; simp only [Memref.view_whole, View.set_whole]; iexact G0
      · iexists g1'; simp only [Memref.view_whole, View.set_whole]; iexact G1
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every array named, and every semaphore counter at zero. -/
theorem run_main_quiescent : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- THE RUN: the result array is the one the grid's blocks make, the arguments end unchanged and every semaphore counter
    at zero. -/
theorem run_value : θ_run defs (onTc (τ := τ) (main (F := Ideal))) ⟨m, fun _ => 0, ρ⟩ (fun r => (∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      ((h.1 c).1 5).trans (((dats m 0 c).arrAt_in 5 rfl _).trans ((A_eq m c 5).trans (V_main_arg5 m c)))⟩, h.2⟩) (run_main_quiescent m ρ)

end Cert.KernelIdeal.Body

end
-- ==== Proof.Algebra.lean ====
/- Softmax on the extended reals: the shifted powers of two of scaled scores against the exponentials of the scores. -/
module

public import Idealize.ShloMosaic.PureOps.Ideal

@[expose] public section

set_option maxRecDepth 16384
set_option maxHeartbeats 400000

noncomputable section

namespace Cert.Softmax

open Idealize.ShloMosaic

/-- The constant that turns natural exponents into exponents of two. -/
abbrev c2 : EReal := (((Real.log 2)⁻¹ : ℝ) : EReal)

/-- The natural logarithm of two is positive. -/
theorem log2_pos : (0 : ℝ) < Real.log 2 := Real.log_pos (by norm_num)

/-- The change of base is positive. -/
theorem c2_pos : (0 : EReal) < c2 := EReal.coe_pos.2 (inv_pos.2 log2_pos)

/-- A least upper bound of the scaled scores is the scaled least upper bound. -/
theorem sup_scaled {n : ℕ} {x f : ℕ → EReal} (hx : ∀ r < n, x r = f r * c2) {M' M : EReal} (hM' : ∀ z, M' ≤ z ↔ ∀ r < n, x r ≤ z)
    (hM : ∀ z, M ≤ z ↔ ∀ r < n, f r ≤ z) : M' = M * c2 := by
  have key : ∀ a z : EReal, a * c2 ≤ z ↔ a ≤ z / c2 := fun a z => (EReal.le_div_iff_mul_le c2_pos (EReal.coe_ne_top _)).symm
  refine eq_of_forall_ge_iff fun z => ?_
  rw [hM', key, hM]
  exact forall_congr' fun r => forall_congr' fun hr => by rw [hx r hr, key]

/-- One weight: the power of two of a scaled score less the scaled maximum, raised by eight, is 256 times the
    exponential of the score less the maximum, and that exponential is a real between zero and one. -/
theorem weight {a M : EReal} (h : a ≤ M) :
    ∃ p : ℝ, 0 ≤ p ∧ p ≤ 1 ∧ Ideal.exp (a - M) = (p : EReal) ∧ Ideal.exp2 (a * c2 - (M * c2 - ((8 : ℝ) : EReal))) = ((256 * p : ℝ) : EReal) := by
  have hl := log2_pos
  have tc : (⊤ : EReal) * c2 = ⊤ := EReal.top_mul_of_pos c2_pos
  have bc : (⊥ : EReal) * c2 = ⊥ := EReal.bot_mul_of_pos c2_pos
  induction M using EReal.rec with
  | bot =>
    rw [le_bot_iff] at h
    subst h
    refine ⟨0, le_rfl, zero_le_one, ?_, ?_⟩
    · rw [EReal.bot_sub]; rfl
    · rw [bc, EReal.bot_sub]; simp
  | top =>
    refine ⟨0, le_rfl, zero_le_one, ?_, ?_⟩
    · rw [EReal.sub_top]; rfl
    · rw [tc, EReal.top_sub_coe, EReal.sub_top]; simp
  | coe m =>
    induction a using EReal.rec with
    | bot =>
      refine ⟨0, le_rfl, zero_le_one, ?_, ?_⟩
      · rw [EReal.bot_sub]; rfl
      · rw [bc, EReal.bot_sub]; simp
    | top => exact absurd h (by simp)
    | coe a =>
      have h' : a ≤ m := EReal.coe_le_coe_iff.1 h
      refine ⟨Real.exp (a - m), (Real.exp_pos _).le, Real.exp_le_one_iff.2 (by linarith), ?_, ?_⟩
      · rw [← EReal.coe_sub]; rfl
      · rw [c2, ← EReal.coe_mul, ← EReal.coe_mul, ← EReal.coe_sub, ← EReal.coe_sub]
        show ((Real.rpow 2 _ : ℝ) : EReal) = _
        congr 1
        show (2 : ℝ) ^ (a * (Real.log 2)⁻¹ - (m * (Real.log 2)⁻¹ - 8)) = _
        rw [Real.rpow_def_of_pos (by norm_num), show Real.log 2 * (a * (Real.log 2)⁻¹ - (m * (Real.log 2)⁻¹ - 8)) = (a - m) + 8 * Real.log 2 by field_simp; ring,
          Real.exp_add, mul_comm, show (8 : ℝ) * Real.log 2 = Real.log (2 ^ 8) by rw [Real.log_pow]; norm_num, Real.exp_log (by norm_num)]
        norm_num

/-- A sum of reals, seen as an extended real. -/
theorem coe_sum {ι : Type*} (s : Finset ι) (p : ι → ℝ) : ((∑ r ∈ s, p r : ℝ) : EReal) = ∑ r ∈ s, (p r : EReal) := by
  classical
  induction s using Finset.induction with
  | empty => simp
  | insert a s h ih => rw [Finset.sum_insert h, Finset.sum_insert h, EReal.coe_add, ih]

/-- The quotient of the kernel is that of the reference: weights 256 times as large above and below, the scale of the
    values applied after the division there and before it here. It must be positive, because an empty sum of weights
    makes the quotient the least element. -/
theorem quotient {n : ℕ} (v : ℕ → EReal) (p : ℕ → ℝ) (hp : ∀ r < n, 0 ≤ p r) {s : EReal} (hs : 0 < s) :
    Ideal.div (∑ r ∈ Finset.range n, v r * ((256 * p r : ℝ) : EReal)) (∑ r ∈ Finset.range n, ((256 * p r : ℝ) : EReal)) * s
      = Ideal.div ((∑ r ∈ Finset.range n, v r * ((256 * p r : ℝ) : EReal)) * (((1 / 256 : ℝ) : EReal) * s)) (∑ r ∈ Finset.range n, (p r : EReal)) := by
  have hL : 0 ≤ ∑ r ∈ Finset.range n, p r := Finset.sum_nonneg fun r hr => hp r (Finset.mem_range.1 hr)
  rw [← coe_sum, ← coe_sum, ← Finset.mul_sum]
  rcases hL.eq_or_lt with h0 | h0
  · have hz : ∀ r ∈ Finset.range n, p r = 0 := (Finset.sum_eq_zero_iff_of_nonneg fun r hr => hp r (Finset.mem_range.1 hr)).1 h0.symm
    have hS : ∑ r ∈ Finset.range n, v r * ((256 * p r : ℝ) : EReal) = 0 := Finset.sum_eq_zero fun r hr => by rw [hz r hr]; simp
    rw [hS, ← h0]
    simp only [Ideal.div, mul_zero, EReal.coe_zero, zero_mul, lt_irrefl, if_true, if_false]
    exact EReal.bot_mul_of_pos hs
  · rw [Ideal.div_coe (by positivity), Ideal.div_coe h0.ne']
    generalize (∑ r ∈ Finset.range n, v r * ((256 * p r : ℝ) : EReal)) = S
    rw [show (1 / (256 * ∑ r ∈ Finset.range n, p r) : ℝ) = (1 / 256) * (1 / ∑ r ∈ Finset.range n, p r) by field_simp, EReal.coe_mul]
    ac_rfl

/-- Clipping to ±448 changes no weight: 256 times a number between zero and one lies inside. -/
theorem clip {p : ℝ} (h0 : 0 ≤ p) (h1 : p ≤ 1) :
    min ((448 : ℝ) : EReal) (max ((-448 : ℝ) : EReal) ((p : EReal) * ((256 : ℝ) : EReal))) = ((256 * p : ℝ) : EReal) := by
  rw [← EReal.coe_mul, mul_comm p, max_eq_right (EReal.coe_le_coe_iff.2 (by linarith)), min_eq_right (EReal.coe_le_coe_iff.2 (by linarith))]

/-- THE ALGEBRA OF THE CLAIM. One output element of the kernel, over the first `n` keys, is that of the plain softmax over
    all `N` keys, the scores from `n` on being masked. -/
theorem softmax_eq {n N : ℕ} (hn : n ≤ N) (f x v : ℕ → EReal) (hf : ∀ r, n ≤ r → f r = ⊥) (hx : ∀ r < n, x r = f r * c2) {s : EReal} (hs : 0 < s) :
    Ideal.div (∑ r ∈ Finset.range n, v r * Ideal.exp2 (x r - ((Finset.range n).sup x - ((8 : ℝ) : EReal))))
        (∑ r ∈ Finset.range n, Ideal.exp2 (x r - ((Finset.range n).sup x - ((8 : ℝ) : EReal)))) * s
      = Ideal.div ((∑ r ∈ Finset.range N, min ((448 : ℝ) : EReal) (max ((-448 : ℝ) : EReal) (Ideal.exp (f r - (Finset.range N).sup f) * ((256 : ℝ) : EReal))) * v r) * (((1 / 256 : ℝ) : EReal) * s))
          (∑ r ∈ Finset.range N, Ideal.exp (f r - (Finset.range N).sup f)) := by
  set M := (Finset.range N).sup f with hM
  have hMf : ∀ r < n, f r ≤ M := fun r hr => Finset.le_sup (f := f) (Finset.mem_range.2 (hr.trans_le hn))
  have hMn : ∀ z, M ≤ z ↔ ∀ r < n, f r ≤ z := fun z => by
    rw [hM, Finset.sup_le_iff]
    refine ⟨fun h r hr => h r (Finset.mem_range.2 (hr.trans_le hn)), fun h r _ => ?_⟩
    by_cases hr : r < n
    · exact h r hr
    · rw [hf r (not_lt.1 hr)]; exact bot_le
  have hM' : (Finset.range n).sup x = M * c2 := sup_scaled hx (fun z => by rw [Finset.sup_le_iff]; simp only [Finset.mem_range]) hMn
  rw [hM']
  have hw : ∀ r, ∃ p : ℝ, 0 ≤ p ∧ p ≤ 1 ∧ Ideal.exp (f r - M) = (p : EReal) ∧ (r < n → Ideal.exp2 (x r - (M * c2 - ((8 : ℝ) : EReal))) = ((256 * p : ℝ) : EReal)) ∧ (n ≤ r → p = 0) := fun r => by
    by_cases hr : r < n
    · obtain ⟨p, a, b, c, d⟩ := weight (hMf r hr)
      exact ⟨p, a, b, c, fun _ => (hx r hr) ▸ d, fun h => absurd hr (not_lt.2 h)⟩
    · exact ⟨0, le_rfl, zero_le_one, by rw [hf r (not_lt.1 hr), EReal.bot_sub]; rfl, fun h => absurd h hr, fun _ => rfl⟩
  choose p p0 p1 pe p2 pz using hw
  have hlo : ∀ g : ℕ → EReal, (∀ r, n ≤ r → g r = 0) → ∑ r ∈ Finset.range N, g r = ∑ r ∈ Finset.range n, g r := fun g hg =>
    (Finset.sum_subset (Finset.range_subset_range.2 hn) fun r _ h => hg r (not_lt.1 fun h' => h (Finset.mem_range.2 h'))).symm
  have e1 : ∀ r ∈ Finset.range n, Ideal.exp2 (x r - (M * c2 - ((8 : ℝ) : EReal))) = ((256 * p r : ℝ) : EReal) := fun r hr => p2 r (Finset.mem_range.1 hr)
  rw [Finset.sum_congr rfl e1, Finset.sum_congr rfl fun r hr => by rw [e1 r hr], quotient v p (fun r _ => p0 r) hs]
  congr 1
  · congr 1
    rw [hlo]
    · refine Finset.sum_congr rfl fun r _ => ?_
      rw [pe, clip (p0 r) (p1 r), mul_comm]
    · intro r hr
      rw [pe, clip (p0 r) (p1 r), pz r hr]; simp
  · rw [hlo]
    · exact Finset.sum_congr rfl fun r _ => (pe r).symm
    · intro r hr
      rw [pe, pz r hr]; simp

end Cert.Softmax
-- ==== Proof.RefValue.lean ====
/- The plain attention of `ReferenceIdeal`, element by element. -/
module

public import proofs.«01_k».proof.Proof.Gen.ReferenceIdeal.Value
public import proofs.«01_k».proof.Proof.Consts
public import Idealize.ShloMosaic.Lib.Pointwise

@[expose] public section

set_option maxRecDepth 16384
set_option maxHeartbeats 400000

noncomputable section

namespace Cert.ReferenceIdeal.Attention

open Idealize.ShloMosaic Idealize.ShloMosaic.TcCoe Idealize.SL.Sem
open Cert.ReferenceIdeal Cert.ReferenceIdeal.Gen Cert.ReferenceIdeal.Value Cert.Consts

/-- One masked score: codes multiplied and summed over a head's lanes, the query's scale, the key's scale and the factor
    1/8, and the least element where the key comes after the query. -/
def score (qs : Vec Ideal S2x16x256 .f32) (ks : Vec Ideal S2x16x512 .f32) (qc kc : Vec Ideal S2x32768x1024 .fp8e4m3)
    (b : Fin 2) (h : Fin 16) (s r : Fin 32768) : EReal :=
  if r.val ≤ s.val then
    ((∑ d : Fin 64, (qc (ix3 b s ⟨h.val * 64 + d.val, by omega⟩) : EReal) * kc (ix3 b r ⟨h.val * 64 + d.val, by omega⟩)) * (qs (ix3 b h ⟨s.val / 128, by omega⟩) : EReal))
      * ((ks (ix3 b h ⟨r.val / 64, by omega⟩) : EReal) * ((1 / 8 : ℝ) : EReal))
  else ⊥

/-- The causal mask's comparison of two positions. -/
theorem causal (s r : Fin 32768) : IntOp.cmpi CmpIPredicate.sle (BitVec.ofNat 32 r.val) (BitVec.ofNat 32 s.val) = BitVec.ofBool (decide (r.val ≤ s.val)) := by
  have hs := s.isLt
  have hr := r.isLt
  have h := Idealize.ShloMosaic.WordCmp.cmpi_sle_ofNat_eq_one_iff (a := r.val) (b := s.val) (w := 32) (by norm_num; omega) (by norm_num; omega)
  by_cases hrs : r.val ≤ s.val
  · rw [h.2 hrs, decide_eq_true hrs]; rfl
  · rw [decide_eq_false hrs]
    exact (BitVec.eq_zero_or_eq_one _).resolve_right fun e => hrs (h.1 e)

/-- A fold by maximum from the least element is the supremum. -/
theorem fold_sup {ι : Type*} (s : Finset ι) (f : ι → EReal) : s.fold max ⊥ f = s.sup f :=
  eq_of_forall_ge_iff fun z => by rw [Finset.fold_max_le, Finset.sup_le_iff]; simp

/-- The reference's masked score matrix at an element. -/
theorem pay4_apply (qs : Vec Ideal S2x16x256 .f32) (ks : Vec Ideal S2x16x512 .f32) (qc kc : Vec Ideal S2x32768x1024 .fp8e4m3)
    (w : Fin 32) (s r : Fin 32768) {b : Fin 2} {h : Fin 16} (hw : w.val = b.val * 16 + h.val) :
    k0_pay4 qc kc qs ks (ix3 w s r) = score qs ks qc kc b h s r - Finset.univ.sup (score qs ks qc kc b h s) := by
  pointwise [k0_pay4]
  have hb : (⟨w.val / 16, by omega⟩ : Fin 2) = b := Fin.ext (show w.val / 16 = b.val by omega)
  have hh : (⟨w.val % 16, by omega⟩ : Fin 16) = h := Fin.ext (show w.val % 16 = h.val by omega)
  have hm : w.val % 16 = h.val := by omega
  simp only [causal, Scalar.select_decide, ofBits_eighth, ofBits_bot, fold_sup, hb, hh, hm]
  rfl

/-- THE REFERENCE AT AN INDEX: plain causal softmax attention over the codes, with the weights clipped to the format's
    range before the second product. -/
theorem G6_apply (qs : Vec Ideal S2x16x256 .f32) (ks : Vec Ideal S2x16x512 .f32) (qc kc : Vec Ideal S2x32768x1024 .fp8e4m3)
    (vt : Vec Ideal S2x1024x32768 .fp8e4m3) (vs : Vec Ideal S2x1x1024 .f32) (b : Fin 2) (s : Fin 32768) (n : Fin 1024) (h : Fin 16) (hh : h.val = n.val / 64) :
    G6 (F := Ideal) qs ks qc kc vt vs (ix3 b s n)
      = Ideal.div ((∑ r : Fin 32768, min ((448 : ℝ) : EReal) (max ((-448 : ℝ) : EReal) (Ideal.exp (score qs ks qc kc b h s r - Finset.univ.sup (score qs ks qc kc b h s)) * ((256 : ℝ) : EReal)))
              * (vt (ix3 b n r) : EReal)) * (((1 / 256 : ℝ) : EReal) * (vs (ix3 b 0 n) : EReal)))
          (∑ r : Fin 32768, Ideal.exp (score qs ks qc kc b h s r - Finset.univ.sup (score qs ks qc kc b h s))) := by
  unfold G6
  pointwise [k0_pay1, k0_pay2, k0_pay3]
  have hb : (⟨(b.val * 16 + n.val / 64) / 16, by omega⟩ : Fin 2) = b := Fin.ext (show (b.val * 16 + n.val / 64) / 16 = b.val by omega)
  have hn : (⟨(b.val * 16 + n.val / 64) % 16 * 64 + n.val % 64, by omega⟩ : Fin 1024) = n := Fin.ext (show (b.val * 16 + n.val / 64) % 16 * 64 + n.val % 64 = n.val by omega)
  simp only [ofBits_256, ofBits_256th, ofBits_448, ofBits_neg448, hb, hn,
    fun r : Fin 32768 => pay4_apply qs ks qc kc ⟨b.val * 16 + n.val / 64, by omega⟩ s r (b := b) (h := h) (by rw [hh])]

end Cert.ReferenceIdeal.Attention
-- ==== Proof.Point.lean ====
/- One element of the kernel's output block is the plain attention's element. -/
module

public import proofs.«01_k».proof.Proof.Inputs
public import proofs.«01_k».proof.Proof.Algebra
public import proofs.«01_k».proof.Proof.RefValue

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen Cert.ReferenceIdeal.Attention Cert.Softmax

/-- A sum over 128 lanes of which one half is zero is the sum over the other half. -/
theorem half_sum (f : Fin 128 → EReal) (hh : Fin 2) :
    (∑ d : Fin 128, if d.val / 64 = hh.val then f d else 0) = ∑ e : Fin 64, f ⟨64 * hh.val + e.val, by omega⟩ := by
  refine (Fin.sum_univ_add (a := 64) (b := 64) (fun d : Fin 128 => if d.val / 64 = hh.val then f d else 0)).trans ?_
  have hl : ∀ e : Fin 64, (Fin.castAdd 64 e : Fin (64 + 64)).val = e.val := fun e => rfl
  have hr : ∀ e : Fin 64, (Fin.natAdd 64 e : Fin (64 + 64)).val = 64 + e.val := fun e => rfl
  have he : ∀ e : Fin 64, e.val / 64 = 0 := fun e => by omega
  have he' : ∀ e : Fin 64, (64 + e.val) / 64 = 1 := fun e => by omega
  fin_cases hh
  · simp only [hl, hr, he, he', if_true, one_ne_zero, if_false, Finset.sum_const_zero, add_zero]
    exact Finset.sum_congr rfl fun e _ => congrArg f (Fin.ext (by show e.val = 64 * 0 + e.val; omega))
  · simp only [hl, hr, he, he', if_true, zero_ne_one, if_false, Finset.sum_const_zero, zero_add]
    exact Finset.sum_congr rfl fun e _ => congrArg f (Fin.ext (by show 64 + e.val = 64 * 1 + e.val; omega))

section
variable (qs : Vec Ideal Cert.ReferenceIdeal.S2x16x256 .f32) (ks : Vec Ideal Cert.ReferenceIdeal.S2x16x512 .f32) (qc kc : Vec Ideal Cert.ReferenceIdeal.S2x32768x1024 .fp8e4m3)
  (vt : Vec Ideal Cert.ReferenceIdeal.S2x1024x32768 .fp8e4m3) (vs : Vec Ideal Cert.ReferenceIdeal.S2x1x1024 .f32)
  (x0 : S1x1x2x256.Idx → EReal) (x1 : S1x1x2x512.Idx → EReal) (x2 : S1x128x128.Idx → EReal) (x3 : S1x32768x128.Idx → EReal) (x4 : S1x128x32768.Idx → EReal) (x5 : S1x1x128.Idx → EReal)
  (b : Fin 2) (g : Fin 8) (t : Fin 256)

variable (h0 : ∀ (h : Fin 2) (u : Fin 256) (hb : 2 * g.val + h.val < 16), x0 (ix4 0 0 h u) = qs (ix3 b ⟨2 * g.val + h.val, hb⟩ u))
  (h1 : ∀ (h : Fin 2) (u : Fin 512) (hb : 2 * g.val + h.val < 16), x1 (ix4 0 0 h u) = ks (ix3 b ⟨2 * g.val + h.val, hb⟩ u))
  (h2 : ∀ (q d : Fin 128) (hq : 128 * t.val + q.val < 32768) (hd : 128 * g.val + d.val < 1024), x2 (ix3 0 q d) = qc (ix3 b ⟨128 * t.val + q.val, hq⟩ ⟨128 * g.val + d.val, hd⟩))
  (h3 : ∀ (r : Fin 32768) (d : Fin 128) (hd : 128 * g.val + d.val < 1024), x3 (ix3 0 r d) = kc (ix3 b r ⟨128 * g.val + d.val, hd⟩))

include h0 h1 h2 h3 in
/-- The kernel's score is the plain score measured in powers of two. -/
theorem score_eq (hh : Fin 2) (q : Fin 128) (r : Fin 32768) :
    gN (Gblk x0 x1 x2 x3 t) r.val (128 * hh.val + q.val) = score qs ks qc kc b ⟨2 * g.val + hh.val, by omega⟩ ⟨128 * t.val + q.val, by omega⟩ r * c2 := by
  have h0 := fun (h : Fin 2) (u : Fin 256) => h0 h u (by omega)
  have h1 := fun (h : Fin 2) (u : Fin 512) => h1 h u (by omega)
  have h2 := fun q d : Fin 128 => h2 q d (by omega) (by omega)
  have h3 := fun (r : Fin 32768) (d : Fin 128) => h3 r d (by omega)
  refine (gN_of (G := Gblk x0 x1 x2 x3 t) (y := ix2 r ⟨128 * hh.val + q.val, by omega⟩) rfl rfl).trans ?_
  unfold Gblk MS score
  show (if r.val ≤ 128 * t.val + (128 * hh.val + q.val) % 128 then _ else _) = _
  rw [show (128 * hh.val + q.val) % 128 = q.val by omega]
  by_cases hm : r.val ≤ 128 * t.val + q.val
  · rw [if_pos hm, if_pos hm]
    have hz : (if 128 * hh.val + q.val < 128 then zq x0 t 0 else zq x0 t 1) = zq x0 t hh := by
      fin_cases hh
      · exact if_pos (by simp)
      · exact if_neg (by simp)
    have hsum : (∑ d : Fin 128, x3 (ix3 0 r d) * Wq x2 (ix2 ⟨128 * hh.val + q.val, by omega⟩ d))
        = ∑ d : Fin 64, (qc (ix3 b ⟨128 * t.val + q.val, by omega⟩ ⟨(2 * g.val + hh.val) * 64 + d.val, by omega⟩) : EReal) * kc (ix3 b r ⟨(2 * g.val + hh.val) * 64 + d.val, by omega⟩) := by
      refine Eq.trans ?_ ((half_sum (fun d => x3 (ix3 0 r d) * x2 (ix3 0 q d)) hh).trans ?_)
      · refine Finset.sum_congr rfl fun d _ => ?_
        show x3 (ix3 0 r d) * (if d.val / 64 = (128 * hh.val + q.val) / 128 then x2 (ix3 0 ⟨(128 * hh.val + q.val) % 128, _⟩ d) else 0) = _
        rw [show (128 * hh.val + q.val) / 128 = hh.val by omega, mul_ite, mul_zero]
        have e : (⟨(128 * hh.val + q.val) % 128, Nat.mod_lt _ (by norm_num)⟩ : Fin 128) = q := Fin.ext (by show (128 * hh.val + q.val) % 128 = q.val; omega)
        rw [e]
      · refine Finset.sum_congr rfl fun d _ => ?_
        have e : (⟨128 * g.val + (64 * hh.val + d.val), by omega⟩ : Fin 1024) = ⟨(2 * g.val + hh.val) * 64 + d.val, by omega⟩ := Fin.ext (by show 128 * g.val + (64 * hh.val + d.val) = (2 * g.val + hh.val) * 64 + d.val; omega)
        show x3 (ix3 0 r ⟨64 * hh.val + d.val, _⟩) * x2 (ix3 0 q ⟨64 * hh.val + d.val, _⟩) = _
        rw [h2, h3, mul_comm]
        simp only [e]
    have hsc : Sc (Wq x2) x3 x1 (zq x0 t 0) (zq x0 t 1) (ix2 r ⟨128 * hh.val + q.val, by omega⟩)
        = (∑ d : Fin 128, x3 (ix3 0 r d) * Wq x2 (ix2 ⟨128 * hh.val + q.val, by omega⟩ d)) * (x1 (ix4 0 0 hh ⟨r.val / 64, by omega⟩) * zq x0 t hh) := by
      rw [← hz]
      have e : (⟨(128 * hh.val + q.val) / 128, by omega⟩ : Fin 2) = hh := Fin.ext (by show (128 * hh.val + q.val) / 128 = hh.val; omega)
      exact congrArg (fun z => (∑ d : Fin 128, x3 (ix3 0 r d) * Wq x2 (ix2 ⟨128 * hh.val + q.val, by omega⟩ d)) * (x1 (ix4 0 0 z ⟨r.val / 64, by omega⟩) * (if 128 * hh.val + q.val < 128 then zq x0 t 0 else zq x0 t 1))) e
    have hk : (((1 / 8) * (Real.log 2)⁻¹ : ℝ) : EReal) = ((1 / 8 : ℝ) : EReal) * c2 := EReal.coe_mul _ _
    have ht : (⟨(128 * t.val + q.val) / 128, by omega⟩ : Fin 256) = t := Fin.ext (by show (128 * t.val + q.val) / 128 = t.val; omega)
    refine hsc.trans ?_
    rw [hsum, h1]
    unfold zq
    rw [h0, hk]
    simp only [ht]
    ac_rfl
  · rw [if_neg hm, if_neg hm]
    exact (EReal.bot_mul_coe_of_pos (inv_pos.2 (Real.log_pos (by norm_num)))).symm

variable (h4 : ∀ (d : Fin 128) (r : Fin 32768) (hd : 128 * g.val + d.val < 1024), x4 (ix3 0 d r) = vt (ix3 b ⟨128 * g.val + d.val, hd⟩ r))
  (h5 : ∀ (d : Fin 128) (hd : 128 * g.val + d.val < 1024), x5 (ix3 0 0 d) = vs (ix3 b 0 ⟨128 * g.val + d.val, hd⟩))

include h0 h1 h2 h3 h4 h5 in
/-- One element of the block the body leaves is the plain attention's element there, where the channel's scale is positive. -/
theorem point (q d : Fin 128) (hq : 128 * t.val + q.val < 32768) (hd : 128 * g.val + d.val < 1024) (hs : (0 : EReal) < vs (ix3 b 0 ⟨128 * g.val + d.val, hd⟩)) :
    blk x0 x1 x2 x3 x4 x5 t (ix3 0 q d) = Cert.ReferenceIdeal.Value.G6 qs ks qc kc vt vs (ix3 b ⟨128 * t.val + q.val, hq⟩ ⟨128 * g.val + d.val, hd⟩) := by
  have hn : 512 * (128 * t.val / 512 + 1) ≤ 32768 := by omega
  have hd2 : d.val / 64 < 2 := by omega
  rw [G6_apply qs ks qc kc vt vs b ⟨128 * t.val + q.val, by omega⟩ ⟨128 * g.val + d.val, by omega⟩ ⟨2 * g.val + d.val / 64, by omega⟩
    (by show 2 * g.val + d.val / 64 = (128 * g.val + d.val) / 64; omega)]
  have hx := score_eq qs ks qc kc x0 x1 x2 x3 b g t h0 h1 h2 h3 ⟨d.val / 64, hd2⟩ q
  generalize hS : score qs ks qc kc b ⟨2 * g.val + d.val / 64, by omega⟩ ⟨128 * t.val + q.val, by omega⟩ = S at hx ⊢
  have key := softmax_eq hn (fun r => if h : r < 32768 then S ⟨r, h⟩ else ⊥) (fun r => gN (Gblk x0 x1 x2 x3 t) r (128 * (d.val / 64) + q.val)) (fun r => vN x4 d r)
    (fun r hr => by
      show (if h : r < 32768 then S ⟨r, h⟩ else ⊥) = ⊥
      split
      · rw [← hS]; unfold score; exact if_neg (by show ¬ r ≤ 128 * t.val + q.val; omega)
      · rfl)
    (fun r hr => by
      have h : r < 32768 := by omega
      show _ = (if h : r < 32768 then S ⟨r, h⟩ else ⊥) * c2
      rw [dif_pos h]; exact hx ⟨r, h⟩) hs
  have hf : ∀ r : Fin 32768, (if h : r.val < 32768 then S ⟨r.val, h⟩ else ⊥) = S r := fun r => dif_pos r.isLt
  have hv : ∀ r : Fin 32768, vN x4 d r.val = vt (ix3 b ⟨128 * g.val + d.val, by omega⟩ r) := fun r => (dif_pos r.isLt).trans (h4 d r hd)
  have hsup : (Finset.range 32768).sup (fun r => if h : r < 32768 then S ⟨r, h⟩ else ⊥) = Finset.univ.sup S :=
    eq_of_forall_ge_iff fun z => by
      rw [Finset.sup_le_iff, Finset.sup_le_iff]
      refine ⟨fun H r _ => by rw [← hf r]; exact H r.val (Finset.mem_range.2 r.isLt), fun H r hr => ?_⟩
      rw [dif_pos (Finset.mem_range.1 hr)]; exact H _ (Finset.mem_univ _)
  rw [hsup, Finset.sum_range (n := 32768), Finset.sum_range (n := 32768)] at key
  simp only [hf, hv] at key
  refine Eq.trans ?_ key
  unfold blk wblk
  exact congrArg (_ * ·) (h5 d hd)
end

end Cert.KernelIdeal.Value
-- ==== Proof.Geometry.lean ====
/- Where the kernel's blocks sit in the arrays. -/
module

public import proofs.«01_k».proof.Proof.Gen.KernelIdeal.Points
public import Idealize.ShloMosaic.Lib.Pipeline.ValueKit

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen

/-- Where each window's block sits at a grid point: batch, head pair, query tile. -/
theorem idx : ∀ t : Fin cfg0.N,
    win0_0.index t = ![(grid0.coords t 0).val, (grid0.coords t 1).val, 0, 0] ∧ win0_1.index t = ![(grid0.coords t 0).val, (grid0.coords t 1).val, 0, 0]
    ∧ win0_2.index t = ![(grid0.coords t 0).val, (grid0.coords t 2).val, (grid0.coords t 1).val] ∧ win0_3.index t = ![(grid0.coords t 0).val, 0, (grid0.coords t 1).val]
    ∧ win0_4.index t = ![(grid0.coords t 0).val, (grid0.coords t 1).val, 0] ∧ win0_5.index t = ![(grid0.coords t 0).val, 0, (grid0.coords t 1).val]
    ∧ win0_6.index t = ![(grid0.coords t 0).val, (grid0.coords t 2).val, (grid0.coords t 1).val] :=
  (by decide +kernel : ∀ t : Fin grid0.N, _)

/-- The output blocks cover the result array. -/
theorem covers6 : (cfg0.win 6).Covers := by decide +kernel

end Cert.KernelIdeal.Value
-- ==== Proof.Final.lean ====
/- The kernel's result array is the plain attention of its arguments. -/
module

public import proofs.«01_k».proof.Proof.KernelIdealFrame
public import proofs.«01_k».proof.Proof.Point
public import proofs.«01_k».proof.Proof.Geometry

@[expose] public section

set_option maxRecDepth 16384
set_option maxHeartbeats 400000

noncomputable section

namespace Cert.KernelIdeal.Value

open Idealize.ShloMosaic Idealize.ShloMosaic.TcCoe Idealize.SL.Sem
open Cert.KernelIdeal Cert.KernelIdeal.Gen Cert.KernelIdeal.Body

variable (m : (ℓ : Loc nD τ sig) → Buf (Elt Ideal) ℓ)

/-- The query scales' block: the pair's two rows. -/
theorem iblk0_apply (c : Dev nD) (t : Fin cfg0.N) (h : Fin 2) (u : Fin 256) (hb : 2 * (grid0.coords t 1).val + h.val < 16) :
    iblk m c 0 t (ix4 0 0 h u) = m ((c : Thread nD τ).loc main_arg0) (ix3 (grid0.coords t 0) ⟨2 * (grid0.coords t 1).val + h.val, hb⟩ u) := by
  have e : ((cfg0.win 0).blk t).view.emb (ix4 0 0 h u) = ix4 (grid0.coords t 0) (grid0.coords t 1) h u := by blk_ext [idx t]
  unfold iblk
  show V m c main_v0 (((cfg0.win 0).blk t).view.emb (ix4 0 0 h u)) = _
  rw [e]
  entry_read
  pointwise
  exact congrArg (fun z => m ((c : Thread nD τ).loc main_arg0) (ix3 (grid0.coords t 0) z u)) (Fin.ext (congrArg (· + h.val) (Nat.mul_comm _ _)))

/-- The key scales' block: the pair's two rows. -/
theorem iblk1_apply (c : Dev nD) (t : Fin cfg0.N) (h : Fin 2) (u : Fin 512) (hb : 2 * (grid0.coords t 1).val + h.val < 16) :
    iblk m c 1 t (ix4 0 0 h u) = m ((c : Thread nD τ).loc main_arg1) (ix3 (grid0.coords t 0) ⟨2 * (grid0.coords t 1).val + h.val, hb⟩ u) := by
  have e : ((cfg0.win 1).blk t).view.emb (ix4 0 0 h u) = ix4 (grid0.coords t 0) (grid0.coords t 1) h u := by blk_ext [idx t]
  unfold iblk
  show V m c main_v1 (((cfg0.win 1).blk t).view.emb (ix4 0 0 h u)) = _
  rw [e]
  entry_read
  pointwise
  exact congrArg (fun z => m ((c : Thread nD τ).loc main_arg1) (ix3 (grid0.coords t 0) z u)) (Fin.ext (congrArg (· + h.val) (Nat.mul_comm _ _)))

/-- The query codes' block: one tile of queries, one pair of heads. -/
theorem iblk2_apply (c : Dev nD) (t : Fin cfg0.N) (q d : Fin 128) (hq : 128 * (grid0.coords t 2).val + q.val < 32768) (hd : 128 * (grid0.coords t 1).val + d.val < 1024) :
    iblk m c 2 t (ix3 0 q d) = m ((c : Thread nD τ).loc main_arg2) (ix3 (grid0.coords t 0) ⟨128 * (grid0.coords t 2).val + q.val, hq⟩ ⟨128 * (grid0.coords t 1).val + d.val, hd⟩) := by
  blk_ext [iblk, V, idx t]

/-- The key codes' block: all keys, one pair of heads. -/
theorem iblk3_apply (c : Dev nD) (t : Fin cfg0.N) (r : Fin 32768) (d : Fin 128) (hd : 128 * (grid0.coords t 1).val + d.val < 1024) :
    iblk m c 3 t (ix3 0 r d) = m ((c : Thread nD τ).loc main_arg3) (ix3 (grid0.coords t 0) r ⟨128 * (grid0.coords t 1).val + d.val, hd⟩) := by
  blk_ext [iblk, V, idx t]

/-- The transposed value codes' block: one pair of heads, all keys. -/
theorem iblk4_apply (c : Dev nD) (t : Fin cfg0.N) (d : Fin 128) (r : Fin 32768) (hd : 128 * (grid0.coords t 1).val + d.val < 1024) :
    iblk m c 4 t (ix3 0 d r) = m ((c : Thread nD τ).loc main_arg4) (ix3 (grid0.coords t 0) ⟨128 * (grid0.coords t 1).val + d.val, hd⟩ r) := by
  blk_ext [iblk, V, idx t]

/-- The channel scales' block: one pair of heads. -/
theorem iblk5_apply (c : Dev nD) (t : Fin cfg0.N) (d : Fin 128) (hd : 128 * (grid0.coords t 1).val + d.val < 1024) :
    iblk m c 5 t (ix3 0 0 d) = m ((c : Thread nD τ).loc main_arg5) (ix3 (grid0.coords t 0) 0 ⟨128 * (grid0.coords t 1).val + d.val, hd⟩) := by
  blk_ext [iblk, V, idx t]

/-- Where an element of the output block sits in the result array. -/
theorem emb6_apply (t : Fin cfg0.N) (q d : Fin 128) (hq : 128 * (grid0.coords t 2).val + q.val < 32768) (hd : 128 * (grid0.coords t 1).val + d.val < 1024) :
    ((cfg0.win 6).blk t).view.emb (ix3 0 q d) = ix3 (grid0.coords t 0) ⟨128 * (grid0.coords t 2).val + q.val, hq⟩ ⟨128 * (grid0.coords t 1).val + d.val, hd⟩ := by
  blk_ext [idx t]

/-- What the body leaves at a grid point is the plain attention at the elements its block covers. -/
theorem point_apply (c : Dev nD) (hs : ∀ i : S2x1x1024.Idx, (0 : EReal) < m ((c : Thread nD τ).loc main_arg5) i) (t : Fin cfg0.N) (y : S1x128x128.Idx) :
    blk (iblk m c 0 t) (iblk m c 1 t) (iblk m c 2 t) (iblk m c 3 t) (iblk m c 4 t) (iblk m c 5 t) (grid0.coords t 2) y
      = Cert.ReferenceIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 6).blk t).view.emb y) := by
  idx_vars y
  obtain rfl : y0 = 0 := Subsingleton.elim _ _
  have l0 : (grid0.coords t 1).val < 8 := (grid0.coords t 1).isLt
  have l1 : (grid0.coords t 2).val < 256 := (grid0.coords t 2).isLt
  have l2 : y1.val < 128 := y1.isLt
  have l3 : y2.val < 128 := y2.isLt
  have hq : 128 * (grid0.coords t 2).val + y1.val < 32768 := by omega
  have hd : 128 * (grid0.coords t 1).val + y2.val < 1024 := by omega
  have e := emb6_apply t y1 y2 hq hd
  generalize ((cfg0.win 6).blk t).view.emb (ix3 0 y1 y2) = z at e ⊢
  subst e
  exact point (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    _ _ _ _ _ _ (grid0.coords t 0) (grid0.coords t 1) (grid0.coords t 2) (iblk0_apply m c t) (iblk1_apply m c t) (iblk2_apply m c t) (iblk3_apply m c t) (iblk4_apply m c t) (iblk5_apply m c t)
    y1 y2 hq hd (hs _)

/-- THE ARRAY after the run: the plain attention of the arguments, where every channel's scale is positive. -/
theorem final (c : Dev nD) (hs : ∀ i : S2x1x1024.Idx, (0 : EReal) < m ((c : Thread nD τ).loc main_arg5) i) :
    (dats m 0 c).arrAt 6 cfg0.N = Cert.ReferenceIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ covers6 fun t _ y => ?_
  blk_simp
  rw [after0_6]
  exact point_apply m c hs t y

end Cert.KernelIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_positive
public import proofs.«01_k».proof.Proof.KernelFrame
public import proofs.«01_k».proof.Proof.Final
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- The idealized kernel runs, keeps its arguments and ends with every semaphore counter at zero. -/
theorem frame_KernelIdeal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Body.run_value m g)

/-- What the precondition says: every channel's scale is positive. -/
theorem scale_pos (a0 : FVec Ideal Cert.Pre_positive.S2x16x256 .f32) (a1 : FVec Ideal Cert.Pre_positive.S2x16x512 .f32) (a2 a3 : FVec Ideal Cert.Pre_positive.S2x32768x1024 .fp8e4m3)
    (a4 : FVec Ideal Cert.Pre_positive.S2x1024x32768 .fp8e4m3) (a5 : FVec Ideal Cert.Pre_positive.S2x1x1024 .f32)
    (h : Cert.Pre_positive.fn (F := Ideal) a0 a1 a2 a3 a4 a5 = fun _ => 1#1) (i : Cert.Pre_positive.S2x1x1024.Idx) : (0 : EReal) < a5 i := by
  haveI : Subsingleton Cert.Pre_positive.S_.Idx := ⟨fun a b => funext fun k => k.elim0⟩
  have e := Host.reduce_andi_all _ _ _ _ (fun k => k.elim0) (congrFun h fun k => k.elim0) i
  have e' := (Ideal.cmp_ogt_eq_one (a5 i) (Ideal.ofBits .f32 0x00000000#32)).1 e
  rwa [show Ideal.ofBits .f32 0x00000000#32 = 0 from Ideal.ofBits_zero .f32] at e'

/-- The seven claims, from the certificate's modules. -/
theorem claim : Cert.Claim := ⟨Cert.Kernel.Gen.facts, Cert.KernelIdeal.Gen.facts, Cert.ReferenceIdeal.Gen.facts, Cert.Pre_positive.Gen.facts,
  fun m g _ => Cert.Kernel.Body.frame m g,
  frame_KernelIdeal,
  fun m g _ => frame_KernelIdeal m g trivial,
  fun m g _ => Cert.ReferenceIdeal.Gen.frame m g,
  fun m g _ => Cert.ReferenceIdeal.Gen.frame m g,
  IdealRules.named_const.statement Cert.KernelIdeal.κ "sm_scale_log2e" .f32 0x3E38AA3B#32 (((1 / 8) * (Real.log 2)⁻¹ : ℝ) : EReal) rfl,
  fun m g m' g' hp ha => ⟨fun c => (Cert.KernelIdeal.Body.dats m 0 c).arrAt 6 Cert.KernelIdeal.cfg0.N,
    (θ_run (Cert.KernelIdeal.defs (F := Ideal)) _ _).mono (fun _ h c => h.1 c) (Cert.KernelIdeal.Body.run_value m g),
    (θ_run (Cert.ReferenceIdeal.defs (F := Ideal)) _ _).mono (fun r h c => by
      obtain ⟨h0, h1, h2, h3, h4, h5⟩ := ha c
      refine ⟨(h c).1.trans ?_, (h c).2⟩
      rw [h0, h1, h2, h3, h4, h5]
      exact (Cert.KernelIdeal.Value.final m c (scale_pos _ _ _ _ _ _ (hp c))).symm) (Cert.ReferenceIdeal.Value.run m' g')⟩⟩

end Cert.Proof

end
